-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v52_0)) (v1 : (c : Dev Cert.Kernel2Ideal.nD) → Buf (Elt Ideal) ((c.tc : Thread Cert.Kernel2Ideal.nD Cert.Kernel2Ideal.τ).loc Cert.Kernel2Ideal.main_v52_1)) (v2 : (c : Dev Cert.Kernel2Ideal.nD) → Buf (Elt Ideal) ((c.tc : Thread Cert.Kernel2Ideal.nD Cert.Kernel2Ideal.τ).loc Cert.Kernel2Ideal.main_v52_2)) (v3 : (c : Dev Cert.Kernel2Ideal.nD) → Buf (Elt Ideal) ((c.tc : Thread Cert.Kernel2Ideal.nD Cert.Kernel2Ideal.τ).loc Cert.Kernel2Ideal.main_v52_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v52_0) = v0 c
          ∧ r.2.mem ((c.tc : Thread Cert.Kernel2Ideal.nD Cert.Kernel2Ideal.τ).loc Cert.Kernel2Ideal.main_v52_1) = v1 c
          ∧ r.2.mem ((c.tc : Thread Cert.Kernel2Ideal.nD Cert.Kernel2Ideal.τ).loc Cert.Kernel2Ideal.main_v52_2) = v2 c
          ∧ r.2.mem ((c.tc : Thread Cert.Kernel2Ideal.nD Cert.Kernel2Ideal.τ).loc Cert.Kernel2Ideal.main_v52_4) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v136) = v0 c
          ∧ r.2.mem ((c.tc : Thread Cert.Reference2Ideal.nD Cert.Reference2Ideal.τ).loc Cert.Reference2Ideal.main_v137) = v1 c
          ∧ r.2.mem ((c.tc : Thread Cert.Reference2Ideal.nD Cert.Reference2Ideal.τ).loc Cert.Reference2Ideal.main_v139) = v2 c
          ∧ r.2.mem ((c.tc : Thread Cert.Reference2Ideal.nD Cert.Reference2Ideal.τ).loc Cert.Reference2Ideal.main_v140) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S16384x2048 : Shape := ⟨2, ![16384, 2048]⟩
abbrev S2048x6144 : Shape := ⟨2, ![2048, 6144]⟩
abbrev S3x6144 : Shape := ⟨2, ![3, 6144]⟩
abbrev S6144 : Shape := ⟨1, ![6144]⟩
abbrev S6144x2048 : Shape := ⟨2, ![6144, 2048]⟩
abbrev S2048 : Shape := ⟨1, ![2048]⟩
abbrev S1x6144 : Shape := ⟨2, ![1, 6144]⟩
abbrev S1x2048 : Shape := ⟨2, ![1, 2048]⟩
abbrev S512x2048 : Shape := ⟨2, ![512, 2048]⟩
abbrev S2048x1024 : Shape := ⟨2, ![2048, 1024]⟩
abbrev S3x1024 : Shape := ⟨2, ![3, 1024]⟩
abbrev S1x1024 : Shape := ⟨2, ![1, 1024]⟩
abbrev S1024x2048 : Shape := ⟨2, ![1024, 2048]⟩
abbrev S6x8x1024 : Shape := ⟨3, ![6, 8, 1024]⟩
abbrev S512x1024 : Shape := ⟨2, ![512, 1024]⟩
abbrev S1x8x1024 : Shape := ⟨3, ![1, 8, 1024]⟩
abbrev S8x1024 : Shape := ⟨2, ![8, 1024]⟩
abbrev S64x8x1024 : Shape := ⟨3, ![64, 8, 1024]⟩
abbrev S1x1x1024 : Shape := ⟨3, ![1, 1, 1024]⟩
abbrev S63x8x1024 : Shape := ⟨3, ![63, 8, 1024]⟩
abbrev S512 : Shape := ⟨1, ![512]⟩
abbrev S512x1 : Shape := ⟨2, ![512, 1]⟩

abbrev nBuf : Space → Nat
  | .hbm => 14
  | .vmem => 19
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2048x6144, .f32⟩
  | .hbm, ⟨3, _⟩ => ⟨S2048x6144, .f32⟩
  | .hbm, ⟨4, _⟩ => ⟨S3x6144, .f32⟩
  | .hbm, ⟨5, _⟩ => ⟨S6144, .f32⟩
  | .hbm, ⟨6, _⟩ => ⟨S6144x2048, .f32⟩
  | .hbm, ⟨7, _⟩ => ⟨S2048, .f32⟩
  | .hbm, ⟨8, _⟩ => ⟨S2048x6144, .bf16⟩
  | .hbm, ⟨9, _⟩ => ⟨S2048x6144, .bf16⟩
  | .hbm, ⟨10, _⟩ => ⟨S1x6144, .f32⟩
  | .hbm, ⟨11, _⟩ => ⟨S6144x2048, .bf16⟩
  | .hbm, ⟨12, _⟩ => ⟨S1x2048, .f32⟩
  | .hbm, ⟨13, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S3x1024, .f32⟩
  | .local _ .vmem, ⟨7, _⟩ => ⟨S3x1024, .f32⟩
  | .local _ .vmem, ⟨8, _⟩ => ⟨S1x1024, .f32⟩
  | .local _ .vmem, ⟨9, _⟩ => ⟨S1x1024, .f32⟩
  | .local _ .vmem, ⟨10, _⟩ => ⟨S1024x2048, .bf16⟩
  | .local _ .vmem, ⟨11, _⟩ => ⟨S1024x2048, .bf16⟩
  | .local _ .vmem, ⟨12, _⟩ => ⟨S512x2048, .f32⟩
  | .local _ .vmem, ⟨13, _⟩ => ⟨S512x2048, .f32⟩
  | .local _ .vmem, ⟨14, _⟩ => ⟨S1x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .f32⟩
  | .local _ .vmem, ⟨18, _⟩ => ⟨S6x8x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 6], ![false, false]⟩

def k0_off1 (i : grid0.Coords) : Fin 3 → Nat :=
  let arg1 : BitVec 32 := BitVec.ofNat 32 (i 1).val
  let v21 : Index := Scalar.indexCast arg1
  let c0_12 : Index := 0#32
  let c0_13 : Index := 0#32
  ![v21.toNat, 0, 0]
def k0_cond2 (i : grid0.Coords) : BitVec 1 :=
  let arg1 : BitVec 32 := BitVec.ofNat 32 (i 1).val
  let c5_i32 : BitVec 32 := 5#32
  let v92 : BitVec 1 := Scalar.cmpi .eq arg1 c5_i32
  let v93 : BitVec 32 := Scalar.extui v92
  let c0_i32_39 : BitVec 32 := 0#32
  let v94 : BitVec 1 := Scalar.cmpi .ne v93 c0_i32_39
  v94

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S16384x2048 : Shape := ⟨2, ![16384, 2048]⟩
abbrev S2048x6144 : Shape := ⟨2, ![2048, 6144]⟩
abbrev S3x6144 : Shape := ⟨2, ![3, 6144]⟩
abbrev S6144 : Shape := ⟨1, ![6144]⟩
abbrev S6144x2048 : Shape := ⟨2, ![6144, 2048]⟩
abbrev S2048 : Shape := ⟨1, ![2048]⟩
abbrev S2x8192x2048 : Shape := ⟨3, ![2, 8192, 2048]⟩
abbrev S2x8192x6144 : Shape := ⟨3, ![2, 8192, 6144]⟩
abbrev S_ : Shape := ⟨0, ![]⟩
abbrev S2x8194x6144 : Shape := ⟨3, ![2, 8194, 6144]⟩
abbrev S1x6144 : Shape := ⟨2, ![1, 6144]⟩
abbrev S1x1x6144 : Shape := ⟨3, ![1, 1, 6144]⟩
abbrev S2x8192 : Shape := ⟨2, ![2, 8192]⟩
abbrev S2x8192x1 : Shape := ⟨3, ![2, 8192, 1]⟩
abbrev S1x1x2048 : Shape := ⟨3, ![1, 1, 2048]⟩

abbrev nBuf : Space → Nat
  | .hbm => 79
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2048x6144, .f32⟩
  | .hbm, ⟨3, _⟩ => ⟨S2048x6144, .f32⟩
  | .hbm, ⟨4, _⟩ => ⟨S3x6144, .f32⟩
  | .hbm, ⟨5, _⟩ => ⟨S6144, .f32⟩
  | .hbm, ⟨6, _⟩ => ⟨S6144x2048, .f32⟩
  | .hbm, ⟨7, _⟩ => ⟨S2048, .f32⟩
  | .hbm, ⟨8, _⟩ => ⟨S16384x2048, .f32⟩
  | .hbm, ⟨9, _⟩ => ⟨S2x8192x2048, .f32⟩
  | .hbm, ⟨10, _⟩ => ⟨S2x8192x6144, .f32⟩
  | .hbm, ⟨11, _⟩ => ⟨S_, .i32⟩
  | .hbm, ⟨12, _⟩ => ⟨S_, .f32⟩
  | .hbm, ⟨13, _⟩ => ⟨S2x8194x6144, .f32⟩
  | .hbm, ⟨14, _⟩ => ⟨S2x8192x6144, .f32⟩
  | .hbm, ⟨15, _⟩ => ⟨S1x6144, .f32⟩
  | .hbm, ⟨16, _⟩ => ⟨S6144, .f32⟩
  | .hbm, ⟨17, _⟩ => ⟨S1x1x6144, .f32⟩
  | .hbm, ⟨18, _⟩ => ⟨S2x8192x6144, .f32⟩
  | .hbm, ⟨19, _⟩ => ⟨S2x8192x6144, .f32⟩
  | .hbm, ⟨20, _⟩ => ⟨S_, .f32⟩
  | .hbm, ⟨21, _⟩ => ⟨S2x8192x6144, .f32⟩
  | .hbm, ⟨22, _⟩ => ⟨S2x8192x6144, .f32⟩
  | .hbm, ⟨23, _⟩ => ⟨S2x8192x6144, .f32⟩
  | .hbm, ⟨24, _⟩ => ⟨S1x6144, .f32⟩
  | .hbm, ⟨25, _⟩ => ⟨S6144, .f32⟩
  | .hbm, ⟨26, _⟩ => ⟨S1x1x6144, .f32⟩
  | .hbm, ⟨27, _⟩ => ⟨S2x8192x6144, .f32⟩
  | .hbm, ⟨28, _⟩ => ⟨S2x8192x6144, .f32⟩
  | .hbm, ⟨29, _⟩ => ⟨S2x8192x6144, .f32⟩
  | .hbm, ⟨30, _⟩ => ⟨S2x8192x6144, .f32⟩
  | .hbm, ⟨31, _⟩ => ⟨S1x6144, .f32⟩
  | .hbm, ⟨32, _⟩ => ⟨S6144, .f32⟩
  | .hbm, ⟨33, _⟩ => ⟨S1x1x6144, .f32⟩
  | .hbm, ⟨34, _⟩ => ⟨S2x8192x6144, .f32⟩
  | .hbm, ⟨35, _⟩ => ⟨S2x8192x6144, .f32⟩
  | .hbm, ⟨36, _⟩ => ⟨S2x8192x6144, .f32⟩
  | .hbm, ⟨37, _⟩ => ⟨S1x1x6144, .f32⟩
  | .hbm, ⟨38, _⟩ => ⟨S2x8192x6144, .f32⟩
  | .hbm, ⟨39, _⟩ => ⟨S2x8192x6144, .f32⟩
  | .hbm, ⟨40, _⟩ => ⟨S2x8192x6144, .f32⟩
  | .hbm, ⟨41, _⟩ => ⟨S2x8192x6144, .f32⟩
  | .hbm, ⟨42, _⟩ => ⟨S_, .f32⟩
  | .hbm, ⟨43, _⟩ => ⟨S2x8192x6144, .f32⟩
  | .hbm, ⟨44, _⟩ => ⟨S2x8192x6144, .f32⟩
  | .hbm, ⟨45, _⟩ => ⟨S2x8192x6144, .f32⟩
  | .hbm, ⟨46, _⟩ => ⟨S_, .f32⟩
  | .hbm, ⟨47, _⟩ => ⟨S2x8192x6144, .f32⟩
  | .hbm, ⟨48, _⟩ => ⟨S2x8192x6144, .f32⟩
  | .hbm, ⟨49, _⟩ => ⟨S2x8192x6144, .f32⟩
  | .hbm, ⟨50, _⟩ => ⟨S_, .f32⟩
  | .hbm, ⟨51, _⟩ => ⟨S2x8192x6144, .f32⟩
  | .hbm, ⟨52, _⟩ => ⟨S2x8192x6144, .f32⟩
  | .hbm, ⟨53, _⟩ => ⟨S_, .f32⟩
  | .hbm, ⟨54, _⟩ => ⟨S2x8192x6144, .f32⟩
  | .hbm, ⟨55, _⟩ => ⟨S2x8192x6144, .f32⟩
  | .hbm, ⟨56, _⟩ => ⟨S2x8192x6144, .f32⟩
  | .hbm, ⟨57, _⟩ => ⟨S2x8192x6144, .f32⟩
  | .hbm, ⟨58, _⟩ => ⟨S2x8192x6144, .f32⟩
  | .hbm, ⟨59, _⟩ => ⟨S2x8192x2048, .f32⟩
  | .hbm, ⟨60, _⟩ => ⟨S2x8192x2048, .f32⟩
  | .hbm, ⟨61, _⟩ => ⟨S2x8192x2048, .f32⟩
  | .hbm, ⟨62, _⟩ => ⟨S_, .f32⟩
  | .hbm, ⟨63, _⟩ => ⟨S2x8192, .f32⟩
  | .hbm, ⟨64, _⟩ => ⟨S2x8192x1, .f32⟩
  | .hbm, ⟨65, _⟩ => ⟨S_, .f32⟩
  | .hbm, ⟨66, _⟩ => ⟨S2x8192x1, .f32⟩
  | .hbm, ⟨67, _⟩ => ⟨S2x8192x1, .f32⟩
  | .hbm, ⟨68, _⟩ => ⟨S_, .f32⟩
  | .hbm, ⟨69, _⟩ => ⟨S2x8192x1, .f32⟩
  | .hbm, ⟨70, _⟩ => ⟨S2x8192x1, .f32⟩
  | .hbm, ⟨71, _⟩ => ⟨S2x8192x1, .f32⟩
  | .hbm, ⟨72, _⟩ => ⟨S2x8192x2048, .f32⟩
  | .hbm, ⟨73, _⟩ => ⟨S2x8192x2048, .f32⟩
  | .hbm, ⟨74, _⟩ => ⟨S1x1x2048, .f32⟩
  | .hbm, ⟨75, _⟩ => ⟨S2x8192x2048, .f32⟩
  | .hbm, ⟨76, _⟩ => ⟨S2x8192x2048, .f32⟩
  | .hbm, ⟨77, _⟩ => ⟨S2x8192x2048, .f32⟩
  | .hbm, ⟨78, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_0 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_1 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_2 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_4 : Ref sig .tc := ⟨.hbm, 62, rfl⟩
abbrev main_v47 : Ref sig .tc := ⟨.hbm, 63, rfl⟩
abbrev main_v48 : Ref sig .tc := ⟨.hbm, 64, rfl⟩
abbrev main_cst_5 : Ref sig .tc := ⟨.hbm, 65, rfl⟩
abbrev main_v49 : Ref sig .tc := ⟨.hbm, 66, rfl⟩
abbrev main_v50 : Ref sig .tc := ⟨.hbm, 67, rfl⟩
abbrev main_cst_6 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== Kernel2.lean ====
abbrev S2x8192x2048 : Shape := ⟨3, ![2, 8192, 2048]⟩
abbrev S2048 : Shape := ⟨1, ![2048]⟩
abbrev S2048x5136 : Shape := ⟨2, ![2048, 5136]⟩
abbrev S16 : Shape := ⟨1, ![16]⟩
abbrev S4x1024 : Shape := ⟨2, ![4, 1024]⟩
abbrev S1024 : Shape := ⟨1, ![1024]⟩
abbrev S16x64x64 : Shape := ⟨3, ![16, 64, 64]⟩
abbrev S2048x1024 : Shape := ⟨2, ![2048, 1024]⟩
abbrev S2048x16 : Shape := ⟨2, ![2048, 16]⟩
abbrev S2048x2048 : Shape := ⟨2, ![2048, 2048]⟩
abbrev S_ : Shape := ⟨0, ![]⟩
abbrev S2048x80 : Shape := ⟨2, ![2048, 80]⟩
abbrev S2048x128 : Shape := ⟨2, ![2048, 128]⟩
abbrev S80 : Shape := ⟨1, ![80]⟩
abbrev S128 : Shape := ⟨1, ![128]⟩
abbrev S1x128 : Shape := ⟨2, ![1, 128]⟩
abbrev S4x4 : Shape := ⟨2, ![4, 4]⟩
abbrev S4x4x64x64 : Shape := ⟨4, ![4, 4, 64, 64]⟩
abbrev S4x4x64x1x64 : Shape := ⟨5, ![4, 4, 64, 1, 64]⟩
abbrev S1x4x1x4x1 : Shape := ⟨5, ![1, 4, 1, 4, 1]⟩
abbrev S4x4x64x4x64 : Shape := ⟨5, ![4, 4, 64, 4, 64]⟩
abbrev S4x256x256 : Shape := ⟨3, ![4, 256, 256]⟩
abbrev S4x256x512 : Shape := ⟨3, ![4, 256, 512]⟩
abbrev S16x128 : Shape := ⟨2, ![16, 128]⟩
abbrev S16x64x128 : Shape := ⟨3, ![16, 64, 128]⟩
abbrev S1024x128 : Shape := ⟨2, ![1024, 128]⟩
abbrev S1x2048 : Shape := ⟨2, ![1, 2048]⟩
abbrev S1024x2048 : Shape := ⟨2, ![1024, 2048]⟩
abbrev S1x1024 : Shape := ⟨2, ![1, 1024]⟩
abbrev S2x1024x8192 : Shape := ⟨3, ![2, 1024, 8192]⟩
abbrev S2x8192x1024 : Shape := ⟨3, ![2, 8192, 1024]⟩
abbrev S2x8192x128 : Shape := ⟨3, ![2, 8192, 128]⟩
abbrev S2x16x8x128 : Shape := ⟨4, ![2, 16, 8, 128]⟩
abbrev S1x512x2048 : Shape := ⟨3, ![1, 512, 2048]⟩
abbrev S1x1024x512 : Shape := ⟨3, ![1, 1024, 512]⟩
abbrev S1x512x1024 : Shape := ⟨3, ![1, 512, 1024]⟩
abbrev S1x512x128 : Shape := ⟨3, ![1, 512, 128]⟩
abbrev S1x1x8x128 : Shape := ⟨4, ![1, 1, 8, 128]⟩
abbrev S8x1024 : Shape := ⟨2, ![8, 1024]⟩
abbrev S512x2048 : Shape := ⟨2, ![512, 2048]⟩
abbrev S512 : Shape := ⟨1, ![512]⟩
abbrev S512x1 : Shape := ⟨2, ![512, 1]⟩
abbrev S512x128 : Shape := ⟨2, ![512, 128]⟩
abbrev S512x384 : Shape := ⟨2, ![512, 384]⟩
abbrev S512x1024 : Shape := ⟨2, ![512, 1024]⟩
abbrev S64x8x1024 : Shape := ⟨3, ![64, 8, 1024]⟩
abbrev S1x1x1024 : Shape := ⟨3, ![1, 1, 1024]⟩
abbrev S1x8x1024 : Shape := ⟨3, ![1, 8, 1024]⟩
abbrev S63x8x1024 : Shape := ⟨3, ![63, 8, 1024]⟩
abbrev S512x256 : Shape := ⟨2, ![512, 256]⟩
abbrev S1x256x512 : Shape := ⟨3, ![1, 256, 512]⟩
abbrev S256x512 : Shape := ⟨2, ![256, 512]⟩
abbrev S512x512 : Shape := ⟨2, ![512, 512]⟩
abbrev S1024x512 : Shape := ⟨2, ![1024, 512]⟩
abbrev S6x128 : Shape := ⟨2, ![6, 128]⟩
abbrev S8x128 : Shape := ⟨2, ![8, 128]⟩

abbrev nBuf : Space → Nat
  | .hbm => 73
  | .vmem => 31
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x5136, .f32⟩
  | .hbm, ⟨3, _⟩ => ⟨S16, .f32⟩
  | .hbm, ⟨4, _⟩ => ⟨S4x1024, .f32⟩
  | .hbm, ⟨5, _⟩ => ⟨S1024, .f32⟩
  | .hbm, ⟨6, _⟩ => ⟨S16x64x64, .f32⟩
  | .hbm, ⟨7, _⟩ => ⟨S1024, .f32⟩
  | .hbm, ⟨8, _⟩ => ⟨S16x64x64, .f32⟩
  | .hbm, ⟨9, _⟩ => ⟨S1024, .f32⟩
  | .hbm, ⟨10, _⟩ => ⟨S1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x16, .f32⟩
  | .hbm, ⟨15, _⟩ => ⟨S2048x2048, .f32⟩
  | .hbm, ⟨16, _⟩ => ⟨S_, .f32⟩
  | .hbm, ⟨17, _⟩ => ⟨S2048x80, .f32⟩
  | .hbm, ⟨18, _⟩ => ⟨S2048x128, .f32⟩
  | .hbm, ⟨19, _⟩ => ⟨S_, .f32⟩
  | .hbm, ⟨20, _⟩ => ⟨S80, .f32⟩
  | .hbm, ⟨21, _⟩ => ⟨S128, .f32⟩
  | .hbm, ⟨22, _⟩ => ⟨S1x128, .f32⟩
  | .hbm, ⟨23, _⟩ => ⟨S4x4, .i32⟩
  | .hbm, ⟨24, _⟩ => ⟨S4x4, .i32⟩
  | .hbm, ⟨25, _⟩ => ⟨S_, .i32⟩
  | .hbm, ⟨26, _⟩ => ⟨S4x4, .i32⟩
  | .hbm, ⟨27, _⟩ => ⟨S4x4, .i32⟩
  | .hbm, ⟨28, _⟩ => ⟨S4x4, .i1⟩
  | .hbm, ⟨29, _⟩ => ⟨S4x4, .f32⟩
  | .hbm, ⟨30, _⟩ => ⟨S4x4x64x64, .f32⟩
  | .hbm, ⟨31, _⟩ => ⟨S4x4x64x1x64, .f32⟩
  | .hbm, ⟨32, _⟩ => ⟨S1x4x1x4x1, .f32⟩
  | .hbm, ⟨33, _⟩ => ⟨S4x4x64x4x64, .f32⟩
  | .hbm, ⟨34, _⟩ => ⟨S4x4x64x4x64, .f32⟩
  | .hbm, ⟨35, _⟩ => ⟨S4x4x64x4x64, .f32⟩
  | .hbm, ⟨36, _⟩ => ⟨S4x256x256, .f32⟩
  | .hbm, ⟨37, _⟩ => ⟨S4x4x64x64, .f32⟩
  | .hbm, ⟨38, _⟩ => ⟨S4x4x64x1x64, .f32⟩
  | .hbm, ⟨39, _⟩ => ⟨S1x4x1x4x1, .f32⟩
  | .hbm, ⟨40, _⟩ => ⟨S4x4x64x4x64, .f32⟩
  | .hbm, ⟨41, _⟩ => ⟨S4x4x64x4x64, .f32⟩
  | .hbm, ⟨42, _⟩ => ⟨S4x4x64x4x64, .f32⟩
  | .hbm, ⟨43, _⟩ => ⟨S4x256x256, .f32⟩
  | .hbm, ⟨44, _⟩ => ⟨S4x256x512, .f32⟩
  | .hbm, ⟨45, _⟩ => ⟨S4x256x512, .bf16⟩
  | .hbm, ⟨46, _⟩ => ⟨S16x128, .i32⟩
  | .hbm, ⟨47, _⟩ => ⟨S16x128, .i32⟩
  | .hbm, ⟨48, _⟩ => ⟨S_, .i32⟩
  | .hbm, ⟨49, _⟩ => ⟨S16x128, .i32⟩
  | .hbm, ⟨50, _⟩ => ⟨S16x128, .i32⟩
  | .hbm, ⟨51, _⟩ => ⟨S16x128, .i1⟩
  | .hbm, ⟨52, _⟩ => ⟨S16x128, .bf16⟩
  | .hbm, ⟨53, _⟩ => ⟨S16x64x128, .bf16⟩
  | .hbm, ⟨54, _⟩ => ⟨S1024x128, .bf16⟩
  | .hbm, ⟨55, _⟩ => ⟨S1x2048, .f32⟩
  | .hbm, ⟨56, _⟩ => ⟨S2048x1024, .bf16⟩
  | .hbm, ⟨57, _⟩ => ⟨S1024x2048, .bf16⟩
  | .hbm, ⟨58, _⟩ => ⟨S2048x1024, .bf16⟩
  | .hbm, ⟨59, _⟩ => ⟨S1024x2048, .bf16⟩
  | .hbm, ⟨60, _⟩ => ⟨S2048x1024, .bf16⟩
  | .hbm, ⟨61, _⟩ => ⟨S2048x2048, .bf16⟩
  | .hbm, ⟨62, _⟩ => ⟨S2048x128, .bf16⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S2x1024x8192, .bf16⟩
  | .hbm, ⟨68, _⟩ => ⟨S2x8192x1024, .bf16⟩
  | .hbm, ⟨69, _⟩ => ⟨S2x1024x8192, .bf16⟩
  | .hbm, ⟨70, _⟩ => ⟨S2x8192x128, .bf16⟩
  | .hbm, ⟨71, _⟩ => ⟨S2x8192x1024, .bf16⟩
  | .hbm, ⟨72, _⟩ => ⟨S2x16x8x128, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | .local _ .vmem, ⟨5, _⟩ => ⟨S2048x1024, .bf16⟩
  | .local _ .vmem, ⟨6, _⟩ => ⟨S2048x2048, .bf16⟩
  | .local _ .vmem, ⟨7, _⟩ => ⟨S2048x128, .bf16⟩
  | .local _ .vmem, ⟨8, _⟩ => ⟨S1x128, .f32⟩
  | .local _ .vmem, ⟨9, _⟩ => ⟨S1024x128, .bf16⟩
  | .local _ .vmem, ⟨10, _⟩ => ⟨S4x1024, .f32⟩
  | .local _ .vmem, ⟨11, _⟩ => ⟨S1x1024, .f32⟩
  | .local _ .vmem, ⟨12, _⟩ => ⟨S4x256x512, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024x512, .bf16⟩
  | .local _ .vmem, ⟨17, _⟩ => ⟨S1x1024x512, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x1024x512, .bf16⟩
  | .local _ .vmem, ⟨21, _⟩ => ⟨S1x1024x512, .bf16⟩
  | .local _ .vmem, ⟨22, _⟩ => ⟨S1x512x128, .bf16⟩
  | .local _ .vmem, ⟨23, _⟩ => ⟨S1x512x128, .bf16⟩
  | .local _ .vmem, ⟨24, _⟩ => ⟨S1x512x1024, .bf16⟩
  | .local _ .vmem, ⟨25, _⟩ => ⟨S1x512x1024, .bf16⟩
  | .local _ .vmem, ⟨26, _⟩ => ⟨S1x1x8x128, .f32⟩
  | .local _ .vmem, ⟨27, _⟩ => ⟨S1x1x8x128, .f32⟩
  | .local _ .vmem, ⟨28, _⟩ => ⟨S1x128, .f32⟩
  | .local _ .vmem, ⟨29, _⟩ => ⟨S8x1024, .f32⟩
  | .local _ .vmem, ⟨30, _⟩ => ⟨S1x1024, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_1 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52_0 : Ref sig .tc := ⟨.hbm, 67, rfl⟩
abbrev main_v52_1 : Ref sig .tc := ⟨.hbm, 68, rfl⟩
abbrev main_v52_2 : Ref sig .tc := ⟨.hbm, 69, rfl⟩
abbrev main_v52_3 : Ref sig .tc := ⟨.hbm, 70, rfl⟩
abbrev main_v52_4 : Ref sig .tc := ⟨.hbm, 71, rfl⟩
abbrev main_v52_5 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x256x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1x8x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference2Ideal.lean ====
abbrev S2x8192x2048 : Shape := ⟨3, ![2, 8192, 2048]⟩
abbrev S2048 : Shape := ⟨1, ![2048]⟩
abbrev S2048x5136 : Shape := ⟨2, ![2048, 5136]⟩
abbrev S16 : Shape := ⟨1, ![16]⟩
abbrev S4x1024 : Shape := ⟨2, ![4, 1024]⟩
abbrev S1024 : Shape := ⟨1, ![1024]⟩
abbrev S16x64x64 : Shape := ⟨3, ![16, 64, 64]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x5136 : Shape := ⟨3, ![2, 8192, 5136]⟩
abbrev S2x8192x1024 : Shape := ⟨3, ![2, 8192, 1024]⟩
abbrev S2x8195x1024 : Shape := ⟨3, ![2, 8195, 1024]⟩
abbrev S1x1024 : Shape := ⟨2, ![1, 1024]⟩
abbrev S1x1x1024 : Shape := ⟨3, ![1, 1, 1024]⟩
abbrev S2x8192x16x64 : Shape := ⟨4, ![2, 8192, 16, 64]⟩
abbrev S16x64x2x8192 : Shape := ⟨4, ![16, 64, 2, 8192]⟩
abbrev S8192 : Shape := ⟨1, ![8192]⟩
abbrev S1x8192x1 : Shape := ⟨3, ![1, 8192, 1]⟩
abbrev S2x1x1024 : Shape := ⟨3, ![2, 1, 1024]⟩
abbrev S2x1024 : Shape := ⟨2, ![2, 1024]⟩
abbrev S8192x2x1024 : Shape := ⟨3, ![8192, 2, 1024]⟩
abbrev S1x2x1024 : Shape := ⟨3, ![1, 2, 1024]⟩
abbrev S2x1024x8192 : Shape := ⟨3, ![2, 1024, 8192]⟩

abbrev nBuf : Space → Nat
  | .hbm => 215
  | .vmem => 0
  | .smem => 0
  | _ => 0

abbrev hbmTy0_0 (i : Nat) : BufTy := match i % 128 with
  | 0 => ⟨S2x8192x2048, .f32⟩
  | 1 => ⟨S2048, .f32⟩
  | 2 => ⟨S2048x5136, .f32⟩
  | 3 => ⟨S16, .f32⟩
  | 4 => ⟨S4x1024, .f32⟩
  | 5 => ⟨S1024, .f32⟩
  | 6 => ⟨S16x64x64, .f32⟩
  | 7 => ⟨S1024, .f32⟩
  | 8 => ⟨S16x64x64, .f32⟩
  | 9 => ⟨S1024, .f32⟩
  | 10 => ⟨S1024, .f32⟩
  | 11 => ⟨S2x8192x2048, .f32⟩
  | 12 => ⟨S_, .f32⟩
  | 13 => ⟨S2x8192, .f32⟩
  | 14 => ⟨S2x8192x1, .f32⟩
  | 15 => ⟨S_, .f32⟩
  | 16 => ⟨S2x8192x1, .f32⟩
  | 17 => ⟨S2x8192x1, .f32⟩
  | 18 => ⟨S_, .f32⟩
  | 19 => ⟨S2x8192x1, .f32⟩
  | 20 => ⟨S2x8192x1, .f32⟩
  | 21 => ⟨S2x8192x1, .f32⟩
  | 22 => ⟨S2x8192x2048, .f32⟩
  | 23 => ⟨S2x8192x2048, .f32⟩
  | 24 => ⟨S1x1x2048, .f32⟩
  | 25 => ⟨S2x8192x2048, .f32⟩
  | 26 => ⟨S2x8192x2048, .f32⟩
  | 27 => ⟨S2x8192x5136, .f32⟩
  | 28 => ⟨S2x8192x1024, .f32⟩
  | 29 => ⟨S_, .i32⟩
  | 30 => ⟨S_, .f32⟩
  | 31 => ⟨S2x8195x1024, .f32⟩
  | 32 => ⟨S2x8192x1024, .f32⟩
  | 33 => ⟨S1x1024, .f32⟩
  | 34 => ⟨S1024, .f32⟩
  | 35 => ⟨S1x1x1024, .f32⟩
  | 36 => ⟨S2x8192x1024, .f32⟩
  | 37 => ⟨S2x8192x1024, .f32⟩
  | 38 => ⟨S_, .f32⟩
  | 39 => ⟨S2x8192x1024, .f32⟩
  | 40 => ⟨S2x8192x1024, .f32⟩
  | 41 => ⟨S2x8192x1024, .f32⟩
  | 42 => ⟨S1x1024, .f32⟩
  | 43 => ⟨S1024, .f32⟩
  | 44 => ⟨S1x1x1024, .f32⟩
  | 45 => ⟨S2x8192x1024, .f32⟩
  | 46 => ⟨S2x8192x1024, .f32⟩
  | 47 => ⟨S2x8192x1024, .f32⟩
  | 48 => ⟨S2x8192x1024, .f32⟩
  | 49 => ⟨S1x1024, .f32⟩
  | 50 => ⟨S1024, .f32⟩
  | 51 => ⟨S1x1x1024, .f32⟩
  | 52 => ⟨S2x8192x1024, .f32⟩
  | 53 => ⟨S2x8192x1024, .f32⟩
  | 54 => ⟨S2x8192x1024, .f32⟩
  | 55 => ⟨S2x8192x1024, .f32⟩
  | 56 => ⟨S1x1024, .f32⟩
  | 57 => ⟨S1024, .f32⟩
  | 58 => ⟨S1x1x1024, .f32⟩
  | 59 => ⟨S2x8192x1024, .f32⟩
  | 60 => ⟨S2x8192x1024, .f32⟩
  | 61 => ⟨S2x8192x1024, .f32⟩
  | 62 => ⟨S1x1x1024, .f32⟩
  | 63 => ⟨S2x8192x1024, .f32⟩
  | 64 => ⟨S2x8192x1024, .f32⟩
  | 65 => ⟨S2x8192x16x64, .f32⟩
  | 66 => ⟨S16x64x2x8192, .f32⟩
  | 67 => ⟨S2x8192x16x64, .f32⟩
  | 68 => ⟨S2x8192x1024, .f32⟩
  | 69 => ⟨S1x1x1024, .f32⟩
  | 70 => ⟨S2x8192x1024, .f32⟩
  | 71 => ⟨S2x8192x1024, .f32⟩
  | 72 => ⟨S2x8192x1024, .f32⟩
  | 73 => ⟨S2x8192x1024, .f32⟩
  | 74 => ⟨S_, .f32⟩
  | 75 => ⟨S2x8192x1024, .f32⟩
  | 76 => ⟨S2x8192x1024, .f32⟩
  | 77 => ⟨S_, .f32⟩
  | 78 => ⟨S2x8192x1024, .f32⟩
  | 79 => ⟨S2x8192x1024, .f32⟩
  | 80 => ⟨S16x64x2x8192, .f32⟩
  | 81 => ⟨S2x8192x16x64, .f32⟩
  | 82 => ⟨S2x8192x1024, .f32⟩
  | 83 => ⟨S1x1x1024, .f32⟩
  | 84 => ⟨S2x8192x1024, .f32⟩
  | 85 => ⟨S2x8192x1024, .f32⟩
  | 86 => ⟨S2x8192x1024, .f32⟩
  | 87 => ⟨S2x8192x1024, .f32⟩
  | 88 => ⟨S_, .f32⟩
  | 89 => ⟨S2x8192x1024, .f32⟩
  | 90 => ⟨S2x8192x1024, .f32⟩
  | 91 => ⟨S_, .f32⟩
  | 92 => ⟨S2x8192x1024, .f32⟩
  | 93 => ⟨S2x8192x1024, .f32⟩
  | 94 => ⟨S_, .f32⟩
  | 95 => ⟨S2x8192x1024, .f32⟩
  | 96 => ⟨S2x8192x1024, .f32⟩
  | 97 => ⟨S1024, .f32⟩
  | 98 => ⟨S_, .f32⟩
  | 99 => ⟨S1024, .f32⟩
  | 100 => ⟨S1024, .f32⟩
  | 101 => ⟨S1024, .f32⟩
  | 102 => ⟨S1024, .f32⟩
  | 103 => ⟨S1024, .i1⟩
  | 104 => ⟨S1024, .f32⟩
  | 105 => ⟨S1024, .f32⟩
  | 106 => ⟨S1024, .f32⟩
  | 107 => ⟨S1024, .f32⟩
  | 108 => ⟨S1024, .f32⟩
  | 109 => ⟨S1024, .f32⟩
  | 110 => ⟨S1024, .f32⟩
  | 111 => ⟨S1024, .f32⟩
  | 112 => ⟨S1x1x1024, .f32⟩
  | 113 => ⟨S2x8192x1024, .f32⟩
  | 114 => ⟨S2x8192x1024, .f32⟩
  | 115 => ⟨S2x8192x1024, .f32⟩
  | 116 => ⟨S_, .f32⟩
  | 117 => ⟨S2x8192x1024, .f32⟩
  | 118 => ⟨S2x8192x1024, .f32⟩
  | 119 => ⟨S2x8192x1024, .f32⟩
  | 120 => ⟨S2x8192x1024, .f32⟩
  | 121 => ⟨S2x8192x1024, .f32⟩
  | 122 => ⟨S8192, .i32⟩
  | 123 => ⟨S1x8192x1, .i32⟩
  | 124 => ⟨S_, .i32⟩
  | 125 => ⟨S1x8192x1, .i32⟩
  | 126 => ⟨S1x8192x1, .i1⟩
  | 127 => ⟨S_, .f32⟩
  | _ => ⟨S2x8192x2048, .f32⟩

abbrev hbmTy0_1 (i : Nat) : BufTy := match i % 128 with
  | 0 => ⟨S_, .f32⟩
  | 1 => ⟨S2x8192x1024, .i1⟩
  | 2 => ⟨S2x8192x1024, .f32⟩
  | 3 => ⟨S2x8192x1024, .f32⟩
  | 4 => ⟨S2x8192x1024, .f32⟩
  | 5 => ⟨S2x8192x1024, .f32⟩
  | 6 => ⟨S2x1x1024, .f32⟩
  | 7 => ⟨S2x1024, .f32⟩
  | 8 => ⟨S_, .f32⟩
  | 9 => ⟨S2x1024, .f32⟩
  | 10 => ⟨S8192x2x1024, .f32⟩
  | 11 => ⟨S8192x2x1024, .f32⟩
  | 12 => ⟨S_, .f32⟩
  | 13 => ⟨S8192x2x1024, .f32⟩
  | 14 => ⟨S_, .i32⟩
  | 15 => ⟨S8192x2x1024, .f32⟩
  | 16 => ⟨S8192x2x1024, .f32⟩
  | 17 => ⟨S_, .i32⟩
  | 18 => ⟨S2x1024, .f32⟩
  | 19 => ⟨S8192x2x1024, .f32⟩
  | 20 => ⟨S_, .i32⟩
  | 21 => ⟨S_, .i1⟩
  | 22 => ⟨S_, .i32⟩
  | 23 => ⟨S_, .i32⟩
  | 24 => ⟨S1x2x1024, .f32⟩
  | 25 => ⟨S2x1024, .f32⟩
  | 26 => ⟨S_, .i32⟩
  | 27 => ⟨S_, .i32⟩
  | 28 => ⟨S1x2x1024, .f32⟩
  | 29 => ⟨S2x1024, .f32⟩
  | 30 => ⟨S2x1024, .f32⟩
  | 31 => ⟨S2x1024, .f32⟩
  | 32 => ⟨S1x2x1024, .f32⟩
  | 33 => ⟨S_, .i32⟩
  | 34 => ⟨S_, .i32⟩
  | 35 => ⟨S8192x2x1024, .f32⟩
  | 36 => ⟨S_, .i32⟩
  | 37 => ⟨S_, .i32⟩
  | 38 => ⟨S2x8192x1024, .f32⟩
  | 39 => ⟨S2x8192x2048, .f32⟩
  | 40 => ⟨S_, .f32⟩
  | 41 => ⟨S2x8192, .f32⟩
  | 42 => ⟨S2x8192x1, .f32⟩
  | 43 => ⟨S_, .f32⟩
  | 44 => ⟨S2x8192x1, .f32⟩
  | 45 => ⟨S2x8192x1, .f32⟩
  | 46 => ⟨S_, .f32⟩
  | 47 => ⟨S2x8192x1, .f32⟩
  | 48 => ⟨S2x8192x1, .f32⟩
  | 49 => ⟨S2x8192x1, .f32⟩
  | 50 => ⟨S2x8192x2048, .f32⟩
  | 51 => ⟨S2x8192x2048, .f32⟩
  | 52 => ⟨S1x1x2048, .f32⟩
  | 53 => ⟨S2x8192x2048, .f32⟩
  | 54 => ⟨S2x8192x2048, .f32⟩
  | 55 => ⟨S2x8192x5136, .f32⟩
  | 56 => ⟨S2x8192x1024, .f32⟩
  | 57 => ⟨S2x8192x1024, .f32⟩
  | 58 => ⟨S2x8192x1024, .f32⟩
  | 59 => ⟨S2x8192x1024, .f32⟩
  | 60 => ⟨S2x8192x1024, .f32⟩
  | 61 => ⟨S2x8192x1024, .f32⟩
  | 62 => ⟨S_, .f32⟩
  | 63 => ⟨S2x8192x1024, .f32⟩
  | 64 => ⟨S2x8192x1024, .f32⟩
  | 65 => ⟨S2x8192x1024, .f32⟩
  | 66 => ⟨S_, .f32⟩
  | 67 => ⟨S2x8192x1024, .f32⟩
  | 68 => ⟨S2x8192x1024, .f32⟩
  | 69 => ⟨S2x8192x1024, .f32⟩
  | 70 => ⟨S_, .f32⟩
  | 71 => ⟨S2x8192x1024, .f32⟩
  | 72 => ⟨S2x8192x1024, .f32⟩
  | 73 => ⟨S_, .f32⟩
  | 74 => ⟨S2x8192x1024, .f32⟩
  | 75 => ⟨S2x8192x1024, .f32⟩
  | 76 => ⟨S2x8192x1024, .f32⟩
  | 77 => ⟨S2x8192x1024, .f32⟩
  | 78 => ⟨S_, .f32⟩
  | 79 => ⟨S2x8192x1024, .f32⟩
  | 80 => ⟨S2x8192x1024, .f32⟩
  | 81 => ⟨S2x1024x8192, .f32⟩
  | 82 => ⟨S2x1024x8192, .bf16⟩
  | 83 => ⟨S2x8192x1024, .bf16⟩
  | 84 => ⟨S2x1024x8192, .f32⟩
  | 85 => ⟨S2x1024x8192, .bf16⟩
  | 86 => ⟨S2x8192x1024, .bf16⟩
  | _ => ⟨S2x8192x2048, .f32⟩

abbrev hbmTy (i : Nat) : BufTy := match i / 128 with
  | 0 => hbmTy0_0 i
  | 1 => hbmTy0_1 i
  | _ => ⟨S2x8192x2048, .f32⟩

abbrev bufTy : (tb : Table) → Fin (tcTables nBuf tb) → BufTy
  | .hbm, ⟨i, _⟩ => hbmTy i
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_call0_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_3 : Ref sig .tc := ⟨.hbm, 74, rfl⟩
abbrev main_v57 : Ref sig .tc := ⟨.hbm, 75, rfl⟩
abbrev main_v58 : Ref sig .tc := ⟨.hbm, 76, rfl⟩
abbrev main_cst_4 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_5 : Ref sig .tc := ⟨.hbm, 88, rfl⟩
abbrev main_v69 : Ref sig .tc := ⟨.hbm, 89, rfl⟩
abbrev main_v70 : Ref sig .tc := ⟨.hbm, 90, rfl⟩
abbrev main_cst_6 : Ref sig .tc := ⟨.hbm, 91, rfl⟩
abbrev main_v71 : Ref sig .tc := ⟨.hbm, 92, rfl⟩
abbrev main_v72 : Ref sig .tc := ⟨.hbm, 93, rfl⟩
abbrev main_cst_7 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_call1_cst : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_call1_v5 : Ref sig .tc := ⟨.hbm, 104, rfl⟩
abbrev main_call1_v6 : Ref sig .tc := ⟨.hbm, 105, rfl⟩
abbrev main_call1_v7 : Ref sig .tc := ⟨.hbm, 106, rfl⟩
abbrev main_call1_v8 : Ref sig .tc := ⟨.hbm, 107, rfl⟩
abbrev main_call1_v9 : Ref sig .tc := ⟨.hbm, 108, rfl⟩
abbrev main_call1_v10 : Ref sig .tc := ⟨.hbm, 109, rfl⟩
abbrev main_call1_v11 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_8 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_c_9 : Ref sig .tc := ⟨.hbm, 124, rfl⟩
abbrev main_v88 : Ref sig .tc := ⟨.hbm, 125, rfl⟩
abbrev main_v89 : Ref sig .tc := ⟨.hbm, 126, rfl⟩
abbrev main_cst_10 : Ref sig .tc := ⟨.hbm, 127, rfl⟩
abbrev main_call2_v0 : Ref sig .tc := ⟨.hbm, 128, rfl⟩
abbrev main_call2_v1 : Ref sig .tc := ⟨.hbm, 129, rfl⟩
abbrev main_call2_v2 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_11 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_12 : Ref sig .tc := ⟨.hbm, 140, rfl⟩
abbrev main_v98 : Ref sig .tc := ⟨.hbm, 141, rfl⟩
abbrev main_c_13 : Ref sig .tc := ⟨.hbm, 142, rfl⟩
abbrev main_v99_0 : Ref sig .tc := ⟨.hbm, 143, rfl⟩
abbrev main_v99_1 : Ref sig .tc := ⟨.hbm, 144, rfl⟩
abbrev main_v99_2 : Ref sig .tc := ⟨.hbm, 145, rfl⟩
abbrev main_v99_3 : Ref sig .tc := ⟨.hbm, 146, rfl⟩
abbrev main_v99_4 : Ref sig .tc := ⟨.hbm, 147, rfl⟩
abbrev main_while0c_c_26 : Ref sig .tc := ⟨.hbm, 148, rfl⟩
abbrev main_while0c_v141 : Ref sig .tc := ⟨.hbm, 149, rfl⟩
abbrev main_while0b_call3_c : Ref sig .tc := ⟨.hbm, 150, rfl⟩
abbrev main_while0b_call3_c_0 : Ref sig .tc := ⟨.hbm, 151, rfl⟩
abbrev main_while0b_call3_v0 : Ref sig .tc := ⟨.hbm, 152, rfl⟩
abbrev main_while0b_v141 : Ref sig .tc := ⟨.hbm, 153, rfl⟩
abbrev main_while0b_call4_c : Ref sig .tc := ⟨.hbm, 154, rfl⟩
abbrev main_while0b_call4_c_0 : Ref sig .tc := ⟨.hbm, 155, rfl⟩
abbrev main_while0b_call4_v0 : Ref sig .tc := ⟨.hbm, 156, rfl⟩
abbrev main_while0b_v142 : Ref sig .tc := ⟨.hbm, 157, rfl⟩
abbrev main_while0b_v143 : Ref sig .tc := ⟨.hbm, 158, rfl⟩
abbrev main_while0b_v144 : Ref sig .tc := ⟨.hbm, 159, rfl⟩
abbrev main_while0b_call5_v0 : Ref sig .tc := ⟨.hbm, 160, rfl⟩
abbrev main_while0b_call5_c : Ref sig .tc := ⟨.hbm, 161, rfl⟩
abbrev main_while0b_call5_c_0 : Ref sig .tc := ⟨.hbm, 162, rfl⟩
abbrev main_while0b_v145 : Ref sig .tc := ⟨.hbm, 163, rfl⟩
abbrev main_while0b_c_26 : Ref sig .tc := ⟨.hbm, 164, rfl⟩
abbrev main_while0b_v146 : Ref sig .tc := ⟨.hbm, 165, rfl⟩
abbrev main_v100 : Ref sig .tc := ⟨.hbm, 166, rfl⟩
abbrev main_v101 : Ref sig .tc := ⟨.hbm, 167, rfl⟩
abbrev main_cst_14 : Ref sig .tc := ⟨.hbm, 168, rfl⟩
abbrev main_v102 : Ref sig .tc := ⟨.hbm, 169, rfl⟩
abbrev main_v103 : Ref sig .tc := ⟨.hbm, 170, rfl⟩
abbrev main_cst_15 : Ref sig .tc := ⟨.hbm, 171, rfl⟩
abbrev main_v104 : Ref sig .tc := ⟨.hbm, 172, rfl⟩
abbrev main_v105 : Ref sig .tc := ⟨.hbm, 173, rfl⟩
abbrev main_cst_16 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_cst_17 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_cst_18 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_cst_19 : Ref sig .tc := ⟨.hbm, 198, rfl⟩
abbrev main_v127 : Ref sig .tc := ⟨.hbm, 199, rfl⟩
abbrev main_v128 : Ref sig .tc := ⟨.hbm, 200, rfl⟩
abbrev main_cst_20 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_cst_21 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩

abbrev nD : Nat := 1
abbrev τ : Topo := Topo.v7x

variable {F : FTy → Type} [FloatOps F]

abbrev main_while0_count : Scf.Loop 32 := ⟨0#32, 8192#32, 1#32⟩
-- ==== Proof.KernelIdeal.Body.lean ====
/- The body of the gated-MLP kernel at one grid point, run on any whole staging memrefs: what it leaves in the
   accumulator, in its slot of the convolution's tail scratch and, at the last chunk, in the output's buffer. -/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The convolution's row `k` of the tap block. -/
abbrev tapRect0 : Rect S3x1024 := Rect.unit (s := S3x1024) ![0, 0] S1x1024.size inb_S3x1024_S1x1024_0_0
abbrev tapRect1 : Rect S3x1024 := Rect.unit (s := S3x1024) ![1, 0] S1x1024.size inb_S3x1024_S1x1024_1_0
abbrev tapRect2 : Rect S3x1024 := Rect.unit (s := S3x1024) ![2, 0] S1x1024.size inb_S3x1024_S1x1024_2_0

/-- The tail scratch's slot at a grid point. -/
abbrev slotRect (i : grid0.Coords) : Rect S6x8x1024 := Rect.unit (s := S6x8x1024) (k0_off1 i) S1x8x1024.size (k0_off1_inb i)

/-- The sublane numbers the convolution's selects compare. -/
abbrev lanes : IVec S64x8x1024 32 := iota .tc S64x8x1024 32 [1] iota_S64x8x1024_d1_w32

/-- What a store through the whole shape, made last, leaves to be read. -/
theorem read_last {S : Shape} {e : EltTy} (v : View sig .tc .vmem S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  funext y
  have hy : (Rect.unit off S.size inb).emb y = y := by subst h; exact Rect.emb_whole_apply _ y
  have := View.read_writes_cons_emb (v := v) (f := f) (Rect.unit off S.size inb) w L y
  rwa [hy] at this

theorem zero2 : (![0, 0] : Fin 2 → Nat) = fun _ => 0 := by decide

/-- A load through the whole shape of a buffer at known contents. -/
theorem readAt_whole {S : Shape} {e : EltTy} {m : Memref sig .tc .vmem S e} (hm : m.IsWhole) {off : Fin S.rank → Nat} (h : off = fun _ => 0)
    (inb : ∀ a, off a + S.size a ≤ S.size a) (X : S.Idx → Elt F e) :
    m.view.readAt (Elt F) (Rect.unit off S.size inb).toLoadRect (hm.unread X) = X :=
  (View.readAt_eq_ld _ _ _).trans ((congrArg (View.ld · _) (hm.read_unread X)).trans (View.ld_unit_zero h inb X))

theorem readAt_rect {S : Shape} {e : EltTy} {m : Memref sig .tc .vmem S e} (hm : m.IsWhole) (r : Rect S) (X : S.Idx → Elt F e) :
    m.view.readAt (Elt F) r.toLoadRect (hm.unread X) = View.ld X r :=
  (View.readAt_eq_ld _ _ _).trans (congrArg (View.ld · _) (hm.read_unread X))

/-- What the body adds to the accumulator `a` at one point: the input blocks, and `s`, what its tail slot held. -/
def step (i : grid0.Coords) (x0 : Vec F S512x2048 .bf16) (x1 x2 : Vec F S2048x1024 .bf16) (x3 : Vec F S3x1024 .f32)
    (x4 : Vec F S1x1024 .f32) (x5 : Vec F S1024x2048 .bf16) (a : Vec F S512x2048 .f32) (s : Vec F S1x8x1024 .f32) : Vec F S512x2048 .f32 :=
  k0_pay1 (k0_pay5 x0 x2)
    (k0_pay9 (k0_pay6 i s) (k0_pay8 x0 x1) lanes x4 (View.ld x3 tapRect2) (View.ld x3 tapRect1) (View.ld x3 tapRect0))
    (k0_pay10 (k0_pay6 i s) (k0_pay8 x0 x1) lanes x4 (View.ld x3 tapRect2) (View.ld x3 tapRect1) (View.ld x3 tapRect0))
    (Scalar.ofBits .f32 0x3F800000#32) a x5

/-- The step from loads that read the blocks. -/
theorem step_of (i : grid0.Coords) {x0 y0 : Vec F S512x2048 .bf16} {x1 x2 y1 y2 : Vec F S2048x1024 .bf16} {x3 : Vec F S3x1024 .f32}
    {x4 y4 t0 t1 t2 : Vec F S1x1024 .f32} {x5 y5 : Vec F S1024x2048 .bf16} {a b : Vec F S512x2048 .f32} {s r : Vec F S1x8x1024 .f32}
    (h0 : y0 = x0) (h1 : y1 = x1) (h2 : y2 = x2) (g0 : t0 = View.ld x3 tapRect0) (g1 : t1 = View.ld x3 tapRect1) (g2 : t2 = View.ld x3 tapRect2)
    (h4 : y4 = x4) (h5 : y5 = x5) (ha : b = a) (hs : r = s) :
    k0_pay1 (k0_pay5 y0 y2) (k0_pay9 (k0_pay6 i r) (k0_pay8 y0 y1) lanes y4 t2 t1 t0) (k0_pay10 (k0_pay6 i r) (k0_pay8 y0 y1) lanes y4 t2 t1 t0)
        (Scalar.ofBits .f32 0x3F800000#32) b y5
      = step i x0 x1 x2 x3 x4 x5 a s := by
  subst h0 h1 h2 g0 g1 g2 h4 h5 ha hs; rfl

theorem pay2_of {x6 y6 a b : Vec F S512x2048 .f32} {x7 y7 : Vec F S1x2048 .f32} (h6 : y6 = x6) (ha : b = a) (h7 : y7 = x7) :
    k0_pay2 y6 b y7 = k0_pay2 x6 a x7 := by
  subst h6 ha h7; rfl

/-- The condition of the body's first branch: the point is at the first chunk. -/
abbrev first (i : grid0.Coords) : Prop := (Scalar.cmpi .ne (Scalar.extui (Scalar.cmpi .eq (BitVec.ofNat 32 (i 1).val) 0#32)) 0#32) = 1#1

variable (c : Dev nD) (i : grid0.Coords)
  (arg2 : Memref sig .tc .vmem S512x2048 .bf16) (harg2 : arg2.IsWhole) (arg3 : Memref sig .tc .vmem S2048x1024 .bf16) (harg3 : arg3.IsWhole)
  (arg4 : Memref sig .tc .vmem S2048x1024 .bf16) (harg4 : arg4.IsWhole) (arg5 : Memref sig .tc .vmem S3x1024 .f32) (harg5 : arg5.IsWhole)
  (arg6 : Memref sig .tc .vmem S1x1024 .f32) (harg6 : arg6.IsWhole) (arg7 : Memref sig .tc .vmem S1024x2048 .bf16) (harg7 : arg7.IsWhole)
  (arg8 : Memref sig .tc .vmem S512x2048 .f32) (harg8 : arg8.IsWhole) (arg9 : Memref sig .tc .vmem S1x2048 .f32) (harg9 : arg9.IsWhole)
  (arg10 : Memref sig .tc .vmem S512x2048 .f32) (harg10 : arg10.IsWhole) (arg11 : Memref sig .tc .vmem S512x2048 .f32) (harg11 : arg11.IsWhole)
  (arg12 : Memref sig .tc .vmem S6x8x1024 .f32) (harg12 : arg12.IsWhole)
  (x0 : Vec F S512x2048 .bf16) (x1 x2 : Vec F S2048x1024 .bf16) (x3 : Vec F S3x1024 .f32) (x4 : Vec F S1x1024 .f32)
  (x5 : Vec F S1024x2048 .bf16) (x6 : Vec F S512x2048 .f32) (x7 : Vec F S1x2048 .f32)

/-- The input buffers at their blocks. -/
abbrev ins : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5
    ∗ owns (c : Thread nD τ) arg8 fullShare x6 ∗ owns (c : Thread nD τ) arg9 fullShare x7)

/-- The tail scratch after the body: its own slot at the chunk's last eight rows, every other place as it was. -/
abbrev tailAfter (g g' : Vec F S6x8x1024 .f32) : Prop :=
  View.ld g' (slotRect i) = k0_pay7 x0 x1 ∧ ∀ y, y ∉ (slotRect i).set → g' y = g y

theorem tailAfter_of (g : Vec F S6x8x1024 .f32) (w : Vec F S1x8x1024 .f32) (h : w = k0_pay7 x0 x1) :
    tailAfter i x0 x1 g (arg12.view.read (Elt F) (arg12.view.writes (Elt F) (harg12.unread g) [⟨slotRect i, w⟩])) := by
  constructor
  · funext x
    exact (View.read_writes_cons_emb (v := arg12.view) (f := harg12.unread g) (slotRect i) w [] x).trans (congrFun h x)
  · intro y hy
    rw [View.writes_cons, View.read_slice_write_of_not_mem _ _ _ _ (by rwa [Rect.map_emb_univ]), View.writes_nil, harg12.read_unread]

set_option maxHeartbeats 1000000 in
/-- The body at a first chunk: the accumulator is zeroed before the chunk's product is added. -/
theorem run_first (hc0 : first i) (hc1 : ¬ k0_cond2 i = 1#1) (o a : Vec F S512x2048 .f32) (g : Vec F S6x8x1024 .f32) (E : Set ℕ) (K : PUnit → sProp 𝕄) :
    iprop(ins c arg2 arg3 arg4 arg5 arg6 arg7 arg8 arg9 x0 x1 x2 x3 x4 x5 x6 x7
        ∗ owns (c : Thread nD τ) arg10 fullShare o ∗ owns (c : Thread nD τ) arg11 fullShare a ∗ owns (c : Thread nD τ) arg12 fullShare g
        ∗ (iprop(ins c arg2 arg3 arg4 arg5 arg6 arg7 arg8 arg9 x0 x1 x2 x3 x4 x5 x6 x7
            ∗ owns (c : Thread nD τ) arg10 fullShare o
            ∗ owns (c : Thread nD τ) arg11 fullShare (step i x0 x1 x2 x3 x4 x5 k0_pay3 (View.ld g (slotRect i)))
            ∗ ∃ g', ⌜tailAfter i x0 x1 g g'⌝ ∗ owns (c : Thread nD τ) arg12 fullShare g') -∗ K ⟨⟩))
      ⊢ wp frame (wpE (defs₀ (F := F)) Variants.none c none) E
          (cc0_conv_gated_mlp i arg2 harg2 arg3 harg3 arg4 harg4 arg5 harg5 arg6 harg6 arg7 harg7 arg8 harg8 arg9 harg9 arg10 harg10 arg11 harg11 arg12 harg12) K := by
  simp only [cc0_conv_gated_mlp_eq_skeleton]; unfold cc0_conv_gated_mlp_skel
  simp only [k0_part1_eq_skeleton, k0_part2_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%fo, %hfo, HO⟩, ⟨%fa, %hfa, HA⟩, ⟨%fg, %hfg, HG⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfo; obtain rfl := harg11.eq_unread hfa; obtain rfl := harg12.eq_unread hfg
  sl_exec (disch := first | sl_exact hc0 | sl_exact hc1)
  sl_step
  iapply Hk
  isplitl [H0 H1 H2 H3 H4 H5 H6 H7]
  · isplitl [H0]; · iexists _; isplitr; swap; (· iexact H0); ipureintro; exact hf0
    isplitl [H1]; · iexists _; isplitr; swap; (· iexact H1); ipureintro; exact hf1
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    isplitl [H5]; · iexists _; isplitr; swap; (· iexact H5); ipureintro; exact hf5
    isplitl [H6]; · iexists _; isplitr; swap; (· iexact H6); ipureintro; exact hf6
    iexists _; isplitr; swap; (· iexact H7); ipureintro; exact hf7
  isplitl [HO]; · iexists _; isplitr; swap; (· iexact HO); ipureintro; exact hfo
  isplitl [HA]
  · iexists _; isplitr; swap; (· iexact HA)
    ipureintro
    refine (read_last _ _ zero2 _ _ _).trans ?_
    exact step_of i (readAt_whole harg2 zero2 _ _) (readAt_whole harg3 zero2 _ _) (readAt_whole harg4 zero2 _ _) (readAt_rect harg5 tapRect0 x3)
      (readAt_rect harg5 tapRect1 x3) (readAt_rect harg5 tapRect2 x3) (readAt_whole harg6 zero2 _ _) (readAt_whole harg7 zero2 _ _) (View.readCov_cons_toLoadRect _ _ _ _)
      (readAt_rect harg12 (slotRect i) g)
  iexists _; isplitr
  swap
  · iexists _; isplitr; swap; (· iexact HG); ipureintro; rfl
  ipureintro
  refine tailAfter_of i arg12 harg12 x0 x1 g _ ?_
  simp only [readAt_whole harg2 zero2, readAt_whole harg3 zero2]

set_option maxHeartbeats 1000000 in
/-- The body at a chunk that is neither the first nor the last. -/
theorem run_mid (hc0 : ¬ first i) (hc1 : ¬ k0_cond2 i = 1#1) (o a : Vec F S512x2048 .f32) (g : Vec F S6x8x1024 .f32) (E : Set ℕ) (K : PUnit → sProp 𝕄) :
    iprop(ins c arg2 arg3 arg4 arg5 arg6 arg7 arg8 arg9 x0 x1 x2 x3 x4 x5 x6 x7
        ∗ owns (c : Thread nD τ) arg10 fullShare o ∗ owns (c : Thread nD τ) arg11 fullShare a ∗ owns (c : Thread nD τ) arg12 fullShare g
        ∗ (iprop(ins c arg2 arg3 arg4 arg5 arg6 arg7 arg8 arg9 x0 x1 x2 x3 x4 x5 x6 x7
            ∗ owns (c : Thread nD τ) arg10 fullShare o
            ∗ owns (c : Thread nD τ) arg11 fullShare (step i x0 x1 x2 x3 x4 x5 a (View.ld g (slotRect i)))
            ∗ ∃ g', ⌜tailAfter i x0 x1 g g'⌝ ∗ owns (c : Thread nD τ) arg12 fullShare g') -∗ K ⟨⟩))
      ⊢ wp frame (wpE (defs₀ (F := F)) Variants.none c none) E
          (cc0_conv_gated_mlp i arg2 harg2 arg3 harg3 arg4 harg4 arg5 harg5 arg6 harg6 arg7 harg7 arg8 harg8 arg9 harg9 arg10 harg10 arg11 harg11 arg12 harg12) K := by
  simp only [cc0_conv_gated_mlp_eq_skeleton]; unfold cc0_conv_gated_mlp_skel
  simp only [k0_part1_eq_skeleton, k0_part2_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%fo, %hfo, HO⟩, ⟨%fa, %hfa, HA⟩, ⟨%fg, %hfg, HG⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfo; obtain rfl := harg11.eq_unread hfa; obtain rfl := harg12.eq_unread hfg
  sl_exec (disch := first | sl_exact hc0 | sl_exact hc1)
  sl_step
  iapply Hk
  isplitl [H0 H1 H2 H3 H4 H5 H6 H7]
  · isplitl [H0]; · iexists _; isplitr; swap; (· iexact H0); ipureintro; exact hf0
    isplitl [H1]; · iexists _; isplitr; swap; (· iexact H1); ipureintro; exact hf1
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    isplitl [H5]; · iexists _; isplitr; swap; (· iexact H5); ipureintro; exact hf5
    isplitl [H6]; · iexists _; isplitr; swap; (· iexact H6); ipureintro; exact hf6
    iexists _; isplitr; swap; (· iexact H7); ipureintro; exact hf7
  isplitl [HO]; · iexists _; isplitr; swap; (· iexact HO); ipureintro; exact hfo
  isplitl [HA]
  · iexists _; isplitr; swap; (· iexact HA)
    ipureintro
    refine (read_last _ _ zero2 _ _ _).trans ?_
    exact step_of i (readAt_whole harg2 zero2 _ _) (readAt_whole harg3 zero2 _ _) (readAt_whole harg4 zero2 _ _) (readAt_rect harg5 tapRect0 x3)
      (readAt_rect harg5 tapRect1 x3) (readAt_rect harg5 tapRect2 x3) (readAt_whole harg6 zero2 _ _) (readAt_whole harg7 zero2 _ _) (readAt_whole harg11 zero2 _ _)
      (readAt_rect harg12 (slotRect i) g)
  iexists _; isplitr
  swap
  · iexists _; isplitr; swap; (· iexact HG); ipureintro; rfl
  ipureintro
  refine tailAfter_of i arg12 harg12 x0 x1 g _ ?_
  simp only [readAt_whole harg2 zero2, readAt_whole harg3 zero2]

set_option maxHeartbeats 1000000 in
/-- The body at a last chunk: the output's buffer receives the normalised accumulator added to the residual. -/
theorem run_last (hc0 : ¬ first i) (hc1 : k0_cond2 i = 1#1) (o a : Vec F S512x2048 .f32) (g : Vec F S6x8x1024 .f32) (E : Set ℕ) (K : PUnit → sProp 𝕄) :
    iprop(ins c arg2 arg3 arg4 arg5 arg6 arg7 arg8 arg9 x0 x1 x2 x3 x4 x5 x6 x7
        ∗ owns (c : Thread nD τ) arg10 fullShare o ∗ owns (c : Thread nD τ) arg11 fullShare a ∗ owns (c : Thread nD τ) arg12 fullShare g
        ∗ (iprop(ins c arg2 arg3 arg4 arg5 arg6 arg7 arg8 arg9 x0 x1 x2 x3 x4 x5 x6 x7
            ∗ owns (c : Thread nD τ) arg10 fullShare (k0_pay2 x6 (step i x0 x1 x2 x3 x4 x5 a (View.ld g (slotRect i))) x7)
            ∗ owns (c : Thread nD τ) arg11 fullShare (step i x0 x1 x2 x3 x4 x5 a (View.ld g (slotRect i)))
            ∗ ∃ g', ⌜tailAfter i x0 x1 g g'⌝ ∗ owns (c : Thread nD τ) arg12 fullShare g') -∗ K ⟨⟩))
      ⊢ wp frame (wpE (defs₀ (F := F)) Variants.none c none) E
          (cc0_conv_gated_mlp i arg2 harg2 arg3 harg3 arg4 harg4 arg5 harg5 arg6 harg6 arg7 harg7 arg8 harg8 arg9 harg9 arg10 harg10 arg11 harg11 arg12 harg12) K := by
  simp only [cc0_conv_gated_mlp_eq_skeleton]; unfold cc0_conv_gated_mlp_skel
  simp only [k0_part1_eq_skeleton, k0_part2_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%fo, %hfo, HO⟩, ⟨%fa, %hfa, HA⟩, ⟨%fg, %hfg, HG⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfo; obtain rfl := harg11.eq_unread hfa; obtain rfl := harg12.eq_unread hfg
  sl_exec (disch := first | sl_exact hc0 | sl_exact hc1)
  sl_step
  iapply Hk
  isplitl [H0 H1 H2 H3 H4 H5 H6 H7]
  · isplitl [H0]; · iexists _; isplitr; swap; (· iexact H0); ipureintro; exact hf0
    isplitl [H1]; · iexists _; isplitr; swap; (· iexact H1); ipureintro; exact hf1
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    isplitl [H5]; · iexists _; isplitr; swap; (· iexact H5); ipureintro; exact hf5
    isplitl [H6]; · iexists _; isplitr; swap; (· iexact H6); ipureintro; exact hf6
    iexists _; isplitr; swap; (· iexact H7); ipureintro; exact hf7
  isplitl [HO]
  · iexists _; isplitr; swap; (· iexact HO)
    ipureintro
    refine (read_last _ _ zero2 _ _ _).trans ?_
    exact pay2_of (readAt_whole harg8 zero2 _ _) ((View.readCov_cons_toLoadRect _ _ _ _).trans (step_of i (readAt_whole harg2 zero2 _ _) (readAt_whole harg3 zero2 _ _) (readAt_whole harg4 zero2 _ _) (readAt_rect harg5 tapRect0 x3)
        (readAt_rect harg5 tapRect1 x3) (readAt_rect harg5 tapRect2 x3) (readAt_whole harg6 zero2 _ _) (readAt_whole harg7 zero2 _ _)
        (readAt_whole harg11 zero2 _ _) (readAt_rect harg12 (slotRect i) g))) (readAt_whole harg9 zero2 _ _)
  isplitl [HA]
  · iexists _; isplitr; swap; (· iexact HA)
    ipureintro
    delta run_last.sl.HA_1
    refine (read_last _ _ zero2 _ _ _).trans ?_
    exact step_of i (readAt_whole harg2 zero2 _ _) (readAt_whole harg3 zero2 _ _) (readAt_whole harg4 zero2 _ _) (readAt_rect harg5 tapRect0 x3)
      (readAt_rect harg5 tapRect1 x3) (readAt_rect harg5 tapRect2 x3) (readAt_whole harg6 zero2 _ _) (readAt_whole harg7 zero2 _ _) (readAt_whole harg11 zero2 _ _)
      (readAt_rect harg12 (slotRect i) g)
  iexists _; isplitr
  swap
  · iexists _; isplitr; swap; (· iexact HG); ipureintro; rfl
  ipureintro
  refine tailAfter_of i arg12 harg12 x0 x1 g _ ?_
  simp only [readAt_whole harg2 zero2, readAt_whole harg3 zero2]

end Cert.KernelIdeal.Ffn

end
-- ==== Proof.KernelIdeal.Frame.lean ====
/- The frame of the gated-MLP kernel's call, with proof data that name what every point leaves: the accumulator's
   running sum, the last eight gate rows each chunk leaves for the next token tile, and the output tile.

   The tail scratch is read before anything is stored to it at the first token tile; what is read there is discarded
   by the body (the first tile of a sequence takes a zero tail), so the invariant says of a slot only what the last
   point at its chunk left in it. -/
module

public import proofs.«01_k».proof.Proof.KernelIdeal.Body
public import Idealize.ShloMosaic.Lib.Claim

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points -/

theorem point_lt (t : Fin cfg0.N) : t.val < 192 := Nat.lt_of_lt_of_eq t.isLt N_0

theorem coord0 (t : Fin cfg0.N) : (grid0.coords t 0).val = t.val / 6 := by
  have e : (grid0.coords t 0).val = t.val / 6 % 32 := Pipeline.Grid.coords_val t 0 (by decide) rfl
  have := point_lt t
  omega

theorem coord1 (t : Fin cfg0.N) : (grid0.coords t 1).val = t.val % 6 := by
  have e : (grid0.coords t 1).val = t.val / 1 % 6 := Pipeline.Grid.coords_val t 1 (by decide) rfl
  omega

theorem first_iff (t : Fin cfg0.N) : first (grid0.coords t) ↔ t.val % 6 = 0 := by
  have h := Nat.mod_lt t.val (show 6 > 0 by decide)
  simp only [first, coord1]
  word_cmp

theorem last_iff (t : Fin cfg0.N) : k0_cond2 (grid0.coords t) = 1#1 ↔ t.val % 6 = 5 := by
  have h := Nat.mod_lt t.val (show 6 > 0 by decide)
  simp only [k0_cond2, coord1]
  word_cmp

theorem off_eq (t : Fin cfg0.N) : k0_off1 (grid0.coords t) = ![t.val % 6, 0, 0] := by
  have h := Nat.mod_lt t.val (show 6 > 0 by decide)
  simp only [k0_off1, coord1, Scalar.indexCast]
  congr 1
  simp only [BitVec.toNat_signExtend, BitVec.toNat_ofNat]
  omega

/-! ## What every point leaves -/

/-- The gate rows a point leaves for the next token tile: the last eight of its gate product. -/
def tailAt (c : Dev nD) (t : Fin cfg0.N) : Vec F S1x8x1024 .f32 := k0_pay7 (iblk m c 0 t) (iblk m c 1 t)

/-- The point of the token tile before, at the same chunk (at the first tile: any point). -/
def before (t : Fin cfg0.N) : Fin cfg0.N := ⟨t.val - 6, Nat.lt_of_le_of_lt (Nat.sub_le _ _) t.isLt⟩

/-- The accumulator after a point that found `a` there. -/
def stepAt (c : Dev nD) (t : Fin cfg0.N) (a : Vec F S512x2048 .f32) : Vec F S512x2048 .f32 :=
  step (grid0.coords t) (iblk m c 0 t) (iblk m c 1 t) (iblk m c 2 t) (iblk m c 3 t) (iblk m c 4 t) (iblk m c 5 t) a (tailAt m c (before t))

/-- The accumulator after point `n`: every token tile starts from zero. -/
def accAt (c : Dev nD) : (n : ℕ) → n < cfg0.N → Vec F S512x2048 .f32
  | 0, h => stepAt m c ⟨0, h⟩ k0_pay3
  | n + 1, h => stepAt m c ⟨n + 1, h⟩ (if (n + 1) % 6 = 0 then k0_pay3 else accAt c n (Nat.lt_of_succ_lt h))

theorem accAt_first (c : Dev nD) (t : Fin cfg0.N) (h : t.val % 6 = 0) : accAt m c t.val t.isLt = stepAt m c t k0_pay3 := by
  obtain ⟨n, hn⟩ := t
  cases n with
  | zero => rw [accAt]
  | succ n => rw [accAt, if_pos h]

theorem accAt_next (c : Dev nD) (t : Fin cfg0.N) (h : t.val % 6 ≠ 0) (h' : t.val - 1 < cfg0.N) :
    accAt m c t.val t.isLt = stepAt m c t (accAt m c (t.val - 1) h') := by
  obtain ⟨n, hn⟩ := t
  cases n with
  | zero => exact absurd rfl h
  | succ n => rw [accAt, if_neg h]; rfl

/-- The output tile a last chunk leaves. -/
def outAt (c : Dev nD) (t : Fin cfg0.N) : Vec F S512x2048 .f32 := k0_pay2 (iblk m c 6 t) (accAt m c t.val t.isLt) (iblk m c 7 t)

/-! ## The invariant over the two scratch buffers -/

abbrev acc : Memref sig .tc .vmem S512x2048 .f32 := Memref.whole cc0_scratch0
abbrev tails : Memref sig .tc .vmem S6x8x1024 .f32 := Memref.whole cc0_scratch1

/-- Within a token tile the accumulator holds what the point before left. -/
def AccOk (c : Dev nD) (n : ℕ) (a : Vec F S512x2048 .f32) : Prop := n % 6 ≠ 0 → ∀ h : n - 1 < cfg0.N, a = accAt m c (n - 1) h

/-- Each of the last six points' slots holds what that point left in it. -/
def TailOk (c : Dev nD) (n : ℕ) (g : Vec F S6x8x1024 .f32) : Prop :=
  ∀ t : Fin cfg0.N, t.val < n → n ≤ t.val + 6 → View.ld g (slotRect (grid0.coords t)) = tailAt m c t

def Inv (c : Dev nD) (n : ℕ) : sProp 𝕄 :=
  iprop((∃ a g, ⌜AccOk m c n a⌝ ∗ ⌜TailOk m c n g⌝ ∗ owns (c : Thread nD τ) acc fullShare a ∗ owns (c : Thread nD τ) tails fullShare g) ∗ (∃ r, prngReg c r))

/-- The scratch at anything. -/
theorem anyScratch (c : Dev nD) :
    (Pipeline.ΦA spec0 c : sProp 𝕄)
      = iprop(iprop((∃ d, owns (c : Thread nD τ) acc fullShare d) ∗ (∃ d, owns (c : Thread nD τ) tails fullShare d)) ∗ (∃ r, prngReg c r)) := by
  unfold Pipeline.ΦA; rw [scopedRest0_eq]; simp only [acc, tails, owns_whole]; try rfl

/-- At the first token tile of a sequence the tail read is discarded. -/
theorem pay6_zero (t : Fin cfg0.N) (h : t.val / 6 % 16 = 0) (s s' : Vec F S1x8x1024 .f32) : k0_pay6 (grid0.coords t) s = k0_pay6 (grid0.coords t) s' := by
  have ht := point_lt t
  unfold k0_pay6
  simp only [coord0]
  have hc : t.val / 6 = 0 ∨ t.val / 6 = 16 := by omega
  rcases hc with hc | hc <;> rw [hc] <;> rfl

theorem step_tail (i : grid0.Coords) (x0 : Vec F S512x2048 .bf16) (x1 x2 : Vec F S2048x1024 .bf16) (x3 : Vec F S3x1024 .f32)
    (x4 : Vec F S1x1024 .f32) (x5 : Vec F S1024x2048 .bf16) (a : Vec F S512x2048 .f32) (s s' : Vec F S1x8x1024 .f32)
    (h : k0_pay6 i s = k0_pay6 i s') : step i x0 x1 x2 x3 x4 x5 a s = step i x0 x1 x2 x3 x4 x5 a s' := by
  unfold step; rw [h]

/-- The slots of two points are one when the chunks are, and disjoint when they are not. -/
theorem slot_same (t u : Fin cfg0.N) (h : t.val % 6 = u.val % 6) (g : Vec F S6x8x1024 .f32) :
    View.ld g (slotRect (grid0.coords t)) = View.ld g (slotRect (grid0.coords u)) := by
  funext x
  refine congrArg g (funext fun a => Fin.ext ?_)
  show k0_off1 (grid0.coords t) a + 1 * (x a).val = k0_off1 (grid0.coords u) a + 1 * (x a).val
  rw [off_eq, off_eq, h]

theorem slot_other (t u : Fin cfg0.N) (h : t.val % 6 ≠ u.val % 6) (x : (slotRect (grid0.coords t)).shape.Idx) :
    (slotRect (grid0.coords t)).idx x ∉ (slotRect (grid0.coords u)).set := by
  intro hm
  obtain ⟨y, hy⟩ := (slotRect (grid0.coords u)).exists_idx_of_mem hm
  have e : k0_off1 (grid0.coords u) 0 + 1 * (y 0).val = k0_off1 (grid0.coords t) 0 + 1 * (x 0).val := congrArg (fun z => (z 0).val) hy
  have hx : (x 0).val < 1 := (x 0).isLt
  have hy' : (y 0).val < 1 := (y 0).isLt
  rw [off_eq, off_eq] at e
  have e' : u.val % 6 + 1 * (y 0).val = t.val % 6 + 1 * (x 0).val := e
  omega

/-- What the body reads of its slot, as the step uses it. -/
theorem stepAt_of (c : Dev nD) (t : Fin cfg0.N) (a : Vec F S512x2048 .f32) (g : Vec F S6x8x1024 .f32) (hg : TailOk m c t.val g) :
    step (grid0.coords t) (iblk m c 0 t) (iblk m c 1 t) (iblk m c 2 t) (iblk m c 3 t) (iblk m c 4 t) (iblk m c 5 t) a (View.ld g (slotRect (grid0.coords t)))
      = stepAt m c t a := by
  unfold stepAt
  by_cases h : t.val < 6
  · exact step_tail _ _ _ _ _ _ _ _ _ _ (pay6_zero t (by omega) _ _)
  · have hb : (before t).val = t.val - 6 := rfl
    have e := hg (before t) (by omega) (by omega)
    rw [slot_same t (before t) (by omega) g, e]

theorem tailOk_next (c : Dev nD) (t : Fin cfg0.N) (g g' : Vec F S6x8x1024 .f32) (hg : TailOk m c t.val g)
    (h : tailAfter (grid0.coords t) (iblk m c 0 t) (iblk m c 1 t) g g') : TailOk m c (t.val + 1) g' := by
  intro u hu hu'
  by_cases e : u = t
  · subst e; exact h.1
  · have hne : u.val ≠ t.val := fun h => e (Fin.ext h)
    rw [← hg u (by omega) (by omega)]
    funext x
    exact h.2 _ (slot_other u t (by omega) x)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := Inv m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (dats m 0 c).leavesExact 8 t)

theorem out_idle (c : Dev nD) (t : Fin cfg0.N) (h : t.val % 6 ≠ 5) :
    (dats m 0 c).leavesExact 8 t = iprop(∃ d, owns (c : Thread nD τ) (st0_8 t) fullShare ((dats m 0 c).before 8 t d)) := by
  refine Dat.leavesExact_idle _ 8 t ?_ ?_
  · show (!(k0_cond2 (grid0.coords t) == 1#1)) = true
    have : ¬ k0_cond2 (grid0.coords t) = 1#1 := fun e => h ((last_iff t).mp e)
    simp only [beq_eq_false_iff_ne.mpr this, Bool.not_false]
  · exact Bool.eq_false_iff.mpr fun e => h ((flush0_8 t).mp e)

theorem out_live (c : Dev nD) (t : Fin cfg0.N) (h : t.val % 6 = 5) :
    (dats m 0 c).leavesExact 8 t = owns (c : Thread nD τ) (st0_8 t) fullShare ((dats m 0 c).after 8 t) := by
  have hi : cfg0.idle 8 (cfg0.grid.coords t) = false := by
    show (!(k0_cond2 (grid0.coords t) == 1#1)) = false
    simp only [(last_iff t).mpr h, beq_self_eq_true, Bool.not_true]
  unfold Dat.leavesExact; rw [hi]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = Inv m c (t.val + 1) from rfl, show (dats m 0 c).Φ t.castSucc = Inv m c t.val from rfl,
    show (dats m 0 c).owesAt () t.succ = (dats m 0 c).owesAt () t.castSucc from rfl,
    after_0, after_1, after_2, after_3, after_4, after_5, after_6, after_7]
  unfold Inv
  iintro ⟨⟨⟨%a, %g, %ha, %hg, HA, HG⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have htl := point_lt t
  have hN : cfg0.N = 192 := N_0
  by_cases h0 : t.val % 6 = 0
  · rw [out_idle m c t (by omega)]
    iapply (run_first c (grid0.coords t) _ _ _ _ _ _ _ _ _ _ _ _ _ _ _ _ _ _ acc _ tails _ (iblk m c 0 t) (iblk m c 1 t) (iblk m c 2 t) (iblk m c 3 t) (iblk m c 4 t) (iblk m c 5 t) (iblk m c 6 t) (iblk m c 7 t)
      ((first_iff t).mpr h0) (fun e => by have := (last_iff t).mp e; omega) _ a g Set.univ _)
    isplitl [H0 H1 H2 H3 H4 H5 H6 H7]
    · unfold ins
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexact H8
    isplitl [HA]; · iexact HA
    isplitl [HG]; · iexact HG
    rw [stepAt_of m c t _ g hg, ← accAt_first m c t h0]
    unfold ins
    iintro ⟨⟨H0, H1, H2, H3, H4, H5, H6, H7⟩, H8, HA, ⟨%g', %hg', HG⟩⟩
    isplitl [HA HG HR]
    · isplitl [HA HG]
      · iexists _, g'
        isplitr; swap
        · isplitr; swap
          · isplitl [HA]; · iexact HA
            iexact HG
          ipureintro; exact tailOk_next m c t g g' hg hg'
        ipureintro; intro _ _; rfl
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists d8; iexact H8
  by_cases h5 : t.val % 6 = 5
  · rw [out_live m c t h5]
    iapply (run_last c (grid0.coords t) _ _ _ _ _ _ _ _ _ _ _ _ _ _ _ _ _ _ acc _ tails _ (iblk m c 0 t) (iblk m c 1 t) (iblk m c 2 t) (iblk m c 3 t) (iblk m c 4 t) (iblk m c 5 t) (iblk m c 6 t) (iblk m c 7 t)
      (fun e => h0 ((first_iff t).mp e)) ((last_iff t).mpr h5) _ a g Set.univ _)
    isplitl [H0 H1 H2 H3 H4 H5 H6 H7]
    · unfold ins
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexact H8
    isplitl [HA]; · iexact HA
    isplitl [HG]; · iexact HG
    rw [stepAt_of m c t _ g hg, ha h0 (by omega), ← accAt_next m c t h0 (by omega)]
    unfold ins
    iintro ⟨⟨H0, H1, H2, H3, H4, H5, H6, H7⟩, H8, HA, ⟨%g', %hg', HG⟩⟩
    isplitl [HA HG HR]
    · isplitl [HA HG]
      · iexists _, g'
        isplitr; swap
        · isplitr; swap
          · isplitl [HA]; · iexact HA
            iexact HG
          ipureintro; exact tailOk_next m c t g g' hg hg'
        ipureintro; intro _ _; rfl
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    rw [after_8]; iexact H8
  · rw [out_idle m c t (by omega)]
    iapply (run_mid c (grid0.coords t) _ _ _ _ _ _ _ _ _ _ _ _ _ _ _ _ _ _ acc _ tails _ (iblk m c 0 t) (iblk m c 1 t) (iblk m c 2 t) (iblk m c 3 t) (iblk m c 4 t) (iblk m c 5 t) (iblk m c 6 t) (iblk m c 7 t)
      (fun e => h0 ((first_iff t).mp e)) (fun e => by have := (last_iff t).mp e; omega) _ a g Set.univ _)
    isplitl [H0 H1 H2 H3 H4 H5 H6 H7]
    · unfold ins
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexact H8
    isplitl [HA]; · iexact HA
    isplitl [HG]; · iexact HG
    rw [stepAt_of m c t _ g hg, ha h0 (by omega), ← accAt_next m c t h0 (by omega)]
    unfold ins
    iintro ⟨⟨H0, H1, H2, H3, H4, H5, H6, H7⟩, H8, HA, ⟨%g', %hg', HG⟩⟩
    isplitl [HA HG HR]
    · isplitl [HA HG]
      · iexists _, g'
        isplitr; swap
        · isplitr; swap
          · isplitl [HA]; · iexact HA
            iexact HG
          ipureintro; exact tailOk_next m c t g g' hg hg'
        ipureintro; intro _ _; rfl
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists d8; iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem inv_in (c : Dev nD) : Pipeline.ΦA spec0 c ⊢ (dats (F := F) m 0 c).Φ 0 := by
  rw [show (dats (F := F) m 0 c).Φ 0 = Inv m c 0 from rfl, anyScratch]
  unfold Inv
  iintro ⟨⟨⟨%a, HA⟩, ⟨%g, HG⟩⟩, HR⟩
  isplitr [HR]; swap; · iexact HR
  iexists a, g
  isplitr; swap
  · isplitr; swap
    · isplitl [HA]; · iexact HA
      iexact HG
    ipureintro; intro u hu; exact absurd hu (Nat.not_lt_zero _)
  ipureintro; intro h; exact absurd rfl h

theorem inv_out (c : Dev nD) : (dats (F := F) m 0 c).Φ (Fin.last cfg0.N) ⊢ Pipeline.ΦA spec0 c := by
  rw [show (dats (F := F) m 0 c).Φ (Fin.last cfg0.N) = Inv m c cfg0.N from rfl, anyScratch]
  unfold Inv
  iintro ⟨⟨%a, %g, %ha, %hg, HA, HG⟩, HR⟩
  isplitr [HR]; swap; · iexact HR
  isplitl [HA]; · iexists a; iexact HA
  iexists g; iexact HG

set_option backward.isDefEq.respectTransparency.types false in
set_option maxHeartbeats 800000 in
/-- The launch: every fair execution ends, with every staged array at what the proof data give and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: the run ends, every argument is unchanged, every semaphore counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Ffn

end
-- ==== Proof.Model.lean ====
/- The gated MLP with a causal convolution on its gate, as functions of the arguments' elements over the extended reals:
   what both programs are shown to compute. -/
module

public import Idealize.ShloMosaic.Lib.Pointwise

@[expose] public section

noncomputable section

namespace Cert.Mlp

open Idealize.ShloMosaic

/-- Arrays by their extents. -/
abbrev Mat (a b : Nat) : Type := (⟨2, ![a, b]⟩ : Shape).Idx → EReal
abbrev Lst (a : Nat) : Type := (⟨1, ![a]⟩ : Shape).Idx → EReal

/-- A projection of the activations, at a token and a feature. -/
def proj (h : Mat 16384 2048) (w : Mat 2048 6144) (n : Fin 16384) (f : Fin 6144) : EReal := ∑ k : Fin 2048, h (ix2 n k) * w (ix2 k f)

/-- The value `k` tokens back in the same sequence, zero before its first token. -/
def back (k : Nat) (g : Fin 16384 → EReal) (n : Fin 16384) : EReal := if k ≤ n.val % 8192 then g ⟨n.val - k, by omega⟩ else 0

/-- The causal convolution of three taps over the tokens of a sequence. -/
def conv (b w2 w1 w0 : EReal) (g : Fin 16384 → EReal) (n : Fin 16384) : EReal := b + w2 * g n + w1 * back 1 g n + w0 * back 2 g n

/-- The gating function, by its tanh form. -/
def gelu (x : EReal) : EReal :=
  x * (Ideal.ofBits .f32 0x3F000000#32 * (Ideal.ofBits .f32 0x3F800000#32 + Ideal.tanh (Ideal.ofBits .f32 0x3F4C422A#32 * (x + Ideal.ofBits .f32 0x3D372713#32 * (x * x * x)))))

/-- The hidden activation of a token at a feature. -/
def activation (h : Mat 16384 2048) (wg wu : Mat 2048 6144) (cw : Mat 3 6144) (cb : Lst 6144) (n : Fin 16384) (f : Fin 6144) : EReal :=
  gelu (conv (cb (ix1 f)) (cw (ix2 2 f)) (cw (ix2 1 f)) (cw (ix2 0 f)) (fun n => proj h wg n f) n) * proj h wu n f

/-- The layer's output before its normalisation. -/
def down (h : Mat 16384 2048) (wg wu : Mat 2048 6144) (cw : Mat 3 6144) (cb : Lst 6144) (wd : Mat 6144 2048) (n : Fin 16384) (j : Fin 2048) : EReal :=
  ∑ f : Fin 6144, activation h wg wu cw cb n f * wd (ix2 f j)

/-- A row scaled by its root mean square and a gain, added to the residual. -/
def normAdd (x : EReal) (y : Fin 2048 → EReal) (gain : EReal) (j : Fin 2048) : EReal :=
  x + y j * Ideal.rsqrt (Ideal.div (∑ k : Fin 2048, y k * y k) (Ideal.ofBits .f32 0x45000000#32) + Ideal.ofBits .f32 0x358637BD#32) * gain

/-- The result at a token and a feature. -/
def result (h : Mat 16384 2048) (x1 : Mat 16384 2048) (wg wu : Mat 2048 6144) (cw : Mat 3 6144) (cb : Lst 6144) (wd : Mat 6144 2048) (gain : Lst 2048) : Mat 16384 2048 :=
  fun i => normAdd (x1 i) (down h wg wu cw cb wd (i 0)) (gain (ix1 (i 1))) (i 1)

end Cert.Mlp
end
-- ==== Proof.KernelIdeal.Payload.lean ====
/- The body's stored values over the extended reals, read at an index. -/
module

public import proofs.«01_k».proof.Proof.KernelIdeal.Frame
public import proofs.«01_k».proof.Proof.Model

@[expose] public section

set_option maxRecDepth 16384

noncomputable section

namespace Cert.KernelIdeal.Ffn

open Cert.KernelIdeal Cert.KernelIdeal.Gen
open Idealize.ShloMosaic

theorem pay4_apply (x : Vec Ideal S512x2048 .bf16) (w : Vec Ideal S2048x1024 .bf16) (r : Fin 512) (l : Fin 1024) :
    k0_pay4 (F := Ideal) x w (ix2 r l) = ∑ k : Fin 2048, x (ix2 r k) * w (ix2 k l) := by
  pointwise [k0_pay4]

theorem pay5_apply (x : Vec Ideal S512x2048 .bf16) (w : Vec Ideal S2048x1024 .bf16) (r : Fin 512) (l : Fin 1024) :
    k0_pay5 (F := Ideal) x w (ix2 r l) = ∑ k : Fin 2048, x (ix2 r k) * w (ix2 k l) := by
  pointwise [k0_pay5]

theorem pay7_apply (x : Vec Ideal S512x2048 .bf16) (w : Vec Ideal S2048x1024 .bf16) (q : Fin 8) (l : Fin 1024) :
    k0_pay7 (F := Ideal) x w (ix3 0 q l) = k0_pay4 (F := Ideal) x w (ix2 ⟨504 + q.val, by omega⟩ l) := by
  pointwise [k0_pay7]

theorem pay8_apply (x : Vec Ideal S512x2048 .bf16) (w : Vec Ideal S2048x1024 .bf16) (p : Fin 64) (q : Fin 8) (l : Fin 1024) :
    k0_pay8 (F := Ideal) x w (ix3 p q l) = k0_pay4 (F := Ideal) x w (ix2 ⟨p.val * 8 + q.val, by omega⟩ l) := by
  pointwise [k0_pay8]

/-- The value `k` rows up in a tile of 512 rows under eight rows `u`. -/
def up (u : Vec Ideal S8x1024 .f32) (G : FVec Ideal S512x1024 .f32) (k : Nat) (hk : k ≤ 8) (r : Fin 512) (l : Fin 1024) : EReal :=
  if h : k ≤ r.val then G (ix2 ⟨r.val - k, by omega⟩ l) else u (ix2 ⟨8 + r.val - k, by omega⟩ l)

theorem lane_lt (q k : Nat) (hq : q < 8) (hk : k < 8) (a b : EReal) :
    Scalar.select (IntOp.cmpi CmpIPredicate.slt (BitVec.ofNat 32 q) (BitVec.ofNat 32 k)) a b = if q < k then a else b := by
  have h : ∀ q : Fin 8, ∀ k : Fin 8, IntOp.cmpi CmpIPredicate.slt (BitVec.ofNat 32 q.val) (BitVec.ofNat 32 k.val) = if q.val < k.val then 1#1 else 0#1 := by decide
  rw [h ⟨q, hq⟩ ⟨k, hk⟩]
  by_cases hc : q < k
  · simp [hc, Scalar.select]
  · simp [hc, Scalar.select]

theorem rolled (x : Vec Ideal S512x2048 .bf16) (w : Vec Ideal S2048x1024 .bf16) (u : Vec Ideal S8x1024 .f32) (k : Nat) (h0 : 0 < k) (hk : k < 8) (r : Fin 512) (l : Fin 1024) :
    (if r.val % 8 < k then (if h : r.val / 8 < 1 then u (ix2 ⟨(r.val % 8 + 8 - k) % 8, by omega⟩ l)
        else k0_pay8 (F := Ideal) x w (ix3 ⟨r.val / 8 - 1, by omega⟩ ⟨(r.val % 8 + 8 - k) % 8, by omega⟩ l))
      else k0_pay8 (F := Ideal) x w (ix3 ⟨r.val / 8, by omega⟩ ⟨(r.val % 8 + 8 - k) % 8, by omega⟩ l)) = up u (k0_pay4 (F := Ideal) x w) k (by omega) r l := by
  have hr := r.isLt
  unfold up
  simp only [pay8_apply]
  by_cases h1 : r.val % 8 < k
  · rw [if_pos h1]
    by_cases h2 : r.val / 8 < 1
    · rw [dif_pos h2, dif_neg (by omega)]
      congr 2
      exact Fin.ext (by show (r.val % 8 + 8 - k) % 8 = 8 + r.val - k; omega)
    · rw [dif_neg h2, dif_pos (by omega)]
      congr 2
      exact Fin.ext (by show (r.val / 8 - 1) * 8 + (r.val % 8 + 8 - k) % 8 = r.val - k; omega)
  · rw [if_neg h1, dif_pos (by omega)]
    congr 2
    exact Fin.ext (by show r.val / 8 * 8 + (r.val % 8 + 8 - k) % 8 = r.val - k; omega)

theorem pay9_apply (u : FVec Ideal S8x1024 .f32) (x : Vec Ideal S512x2048 .bf16) (w : Vec Ideal S2048x1024 .bf16) (b w2 w1 w0 : Vec Ideal S1x1024 .f32) (r : Fin 512) (l : Fin 1024) :
    k0_pay9 (F := Ideal) u (k0_pay8 x w) lanes b w2 w1 w0 (ix2 r l)
      = b (ix2 0 l) + w2 (ix2 0 l) * k0_pay4 (F := Ideal) x w (ix2 r l) + w1 (ix2 0 l) * up u (k0_pay4 x w) 1 (by decide) r l
        + w0 (ix2 0 l) * up u (k0_pay4 x w) 2 (by decide) r l := by
  rw [← rolled x w u 1 (by decide) (by decide), ← rolled x w u 2 (by decide) (by decide),
    ← lane_lt (r.val % 8) 1 (by omega) (by decide), ← lane_lt (r.val % 8) 2 (by omega) (by decide)]
  have e : k0_pay4 (F := Ideal) x w (ix2 r l) = k0_pay8 (F := Ideal) x w (ix3 ⟨r.val / 8, by omega⟩ ⟨r.val % 8, by omega⟩ l) := by
    rw [pay8_apply]; congr 2; exact Fin.ext (by show r.val = r.val / 8 * 8 + r.val % 8; omega)
  rw [e]
  generalize k0_pay8 (F := Ideal) x w = g
  pointwise [k0_pay9, lanes]

theorem gated_apply (u : FVec Ideal S8x1024 .f32) (g : FVec Ideal S64x8x1024 .f32) (b w2 w1 w0 : Vec Ideal S1x1024 .f32)
    (p : FVec Ideal S512x1024 .f32) (a : Vec Ideal S512x2048 .f32) (w : Vec Ideal S1024x2048 .bf16) (r : Fin 512) (j : Fin 2048) :
    k0_pay1 (F := Ideal) p (k0_pay9 u g lanes b w2 w1 w0) (k0_pay10 u g lanes b w2 w1 w0) (Scalar.ofBits .f32 0x3F800000#32) a w (ix2 r j)
      = a (ix2 r j) + ∑ l : Fin 1024, Cert.Mlp.gelu (k0_pay9 (F := Ideal) u g lanes b w2 w1 w0 (ix2 r l)) * p (ix2 r l) * w (ix2 l j) := by
  pointwise [k0_pay1, k0_pay10, Cert.Mlp.gelu]

theorem pay2_apply (x a : Vec Ideal S512x2048 .f32) (g : Vec Ideal S1x2048 .f32) (r : Fin 512) (j : Fin 2048) :
    k0_pay2 (F := Ideal) x a g (ix2 r j) = Cert.Mlp.normAdd (x (ix2 r j)) (fun j => a (ix2 r j)) (g (ix2 0 j)) j := by
  pointwise [k0_pay2, Cert.Mlp.normAdd]

theorem pay3_apply (r : Fin 512) (j : Fin 2048) : k0_pay3 (F := Ideal) (ix2 r j) = 0 := by
  pointwise [k0_pay3]

end Cert.KernelIdeal.Ffn
end
-- ==== Proof.KernelIdeal.Reads.lean ====
/- The blocks the body reads at a grid point, as elements of the arguments. -/
module

public import proofs.«01_k».proof.Proof.KernelIdeal.Frame
public import Idealize.ShloMosaic.Lib.Pipeline.ValueKit

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic

variable (m : (ℓ : Loc nD τ sig) → Buf (Elt Ideal) ℓ)

/-- The block each window stages at a grid point. -/
theorem idx : ∀ t : Fin cfg0.N,
    ((cfg0.win 0).index t 0 = t.val / 6 ∧ (cfg0.win 0).index t 1 = 0)
    ∧ ((cfg0.win 1).index t 0 = 0 ∧ (cfg0.win 1).index t 1 = t.val % 6)
    ∧ ((cfg0.win 2).index t 0 = 0 ∧ (cfg0.win 2).index t 1 = t.val % 6)
    ∧ ((cfg0.win 3).index t 0 = 0 ∧ (cfg0.win 3).index t 1 = t.val % 6)
    ∧ ((cfg0.win 4).index t 0 = 0 ∧ (cfg0.win 4).index t 1 = t.val % 6)
    ∧ ((cfg0.win 5).index t 0 = t.val % 6 ∧ (cfg0.win 5).index t 1 = 0)
    ∧ ((cfg0.win 6).index t 0 = t.val / 6 ∧ (cfg0.win 6).index t 1 = 0)
    ∧ ((cfg0.win 7).index t 0 = 0 ∧ (cfg0.win 7).index t 1 = 0)
    ∧ ((cfg0.win 8).index t 0 = t.val / 6 ∧ (cfg0.win 8).index t 1 = 0) := by
  decide +kernel

/-- Row `r` of the token tile at point `t`. -/
def row (t : Fin cfg0.N) (r : Fin 512) : Fin 16384 := ⟨t.val / 6 * 512 + r.val, by have := point_lt t; have := r.isLt; omega⟩

/-- Column `l` of the chunk at point `t`. -/
def col (t : Fin cfg0.N) (l : Fin 1024) : Fin 6144 := ⟨t.val % 6 * 1024 + l.val, by have := l.isLt; omega⟩

variable (c : Dev nD) (t : Fin cfg0.N)

theorem read0 (r : Fin 512) (k : Fin 2048) : (iblk m c 0 t (ix2 r k) : Elt Ideal .bf16) = m ((c.tc : Thread nD τ).loc main_arg0) (ix2 (row t r) k) := by
  blk_ext! [iblk, V, row, idx t]

theorem read1 (k : Fin 2048) (l : Fin 1024) : (iblk m c 1 t (ix2 k l) : Elt Ideal .bf16) = m ((c.tc : Thread nD τ).loc main_arg2) (ix2 k (col t l)) := by
  blk_ext! [iblk, V, col, idx t]

theorem read2 (k : Fin 2048) (l : Fin 1024) : (iblk m c 2 t (ix2 k l) : Elt Ideal .bf16) = m ((c.tc : Thread nD τ).loc main_arg3) (ix2 k (col t l)) := by
  blk_ext! [iblk, V, col, idx t]

theorem read3 (k : Fin 3) (l : Fin 1024) : (iblk m c 3 t (ix2 k l) : Elt Ideal .f32) = m ((c.tc : Thread nD τ).loc main_arg4) (ix2 k (col t l)) := by
  blk_ext! [iblk, V, col, idx t]

theorem read4 (l : Fin 1024) : (iblk m c 4 t (ix2 0 l) : Elt Ideal .f32) = m ((c.tc : Thread nD τ).loc main_arg5) (ix1 (col t l)) := by
  blk_ext! [iblk, V, col, idx t]

theorem read5 (l : Fin 1024) (j : Fin 2048) : (iblk m c 5 t (ix2 l j) : Elt Ideal .bf16) = m ((c.tc : Thread nD τ).loc main_arg6) (ix2 (col t l) j) := by
  blk_ext! [iblk, V, col, idx t]

theorem read6 (r : Fin 512) (j : Fin 2048) : (iblk m c 6 t (ix2 r j) : Elt Ideal .f32) = m ((c.tc : Thread nD τ).loc main_arg1) (ix2 (row t r) j) := by
  blk_ext! [iblk, V, row, idx t]

theorem read7 (j : Fin 2048) : (iblk m c 7 t (ix2 0 j) : Elt Ideal .f32) = m ((c.tc : Thread nD τ).loc main_arg7) (ix1 j) := by
  blk_ext! [iblk, V, idx t]

end Cert.KernelIdeal.Ffn
end
-- ==== Proof.KernelIdeal.Value.lean ====
/- The array the kernel leaves is the model's result, over the extended reals. -/
module

public import proofs.«01_k».proof.Proof.KernelIdeal.Payload
public import proofs.«01_k».proof.Proof.KernelIdeal.Reads

@[expose] public section

set_option maxRecDepth 16384

noncomputable section

namespace Cert.KernelIdeal.Ffn

open Cert.KernelIdeal Cert.KernelIdeal.Gen Cert.Mlp
open Idealize.ShloMosaic Idealize.ShloMosaic.TcCoe Idealize.ShloMosaic.Tactic

variable (m : (ℓ : Loc nD τ sig) → Buf (Elt Ideal) ℓ) (c : Dev nD)

/-- The arguments as the launch finds them. -/
abbrev Ah : Mat 16384 2048 := m ((c.tc : Thread nD τ).loc main_arg0)
abbrev Ax : Mat 16384 2048 := m ((c.tc : Thread nD τ).loc main_arg1)
abbrev Ag : Mat 2048 6144 := m ((c.tc : Thread nD τ).loc main_arg2)
abbrev Au : Mat 2048 6144 := m ((c.tc : Thread nD τ).loc main_arg3)
abbrev Aw : Mat 3 6144 := m ((c.tc : Thread nD τ).loc main_arg4)
abbrev Ab : Lst 6144 := m ((c.tc : Thread nD τ).loc main_arg5)
abbrev Ad : Mat 6144 2048 := m ((c.tc : Thread nD τ).loc main_arg6)
abbrev Ar : Lst 2048 := m ((c.tc : Thread nD τ).loc main_arg7)

theorem gate_at (t : Fin cfg0.N) (r : Fin 512) (l : Fin 1024) :
    k0_pay4 (F := Ideal) (iblk m c 0 t) (iblk m c 1 t) (ix2 r l) = proj (Ah m c) (Ag m c) (row t r) (col t l) := by
  rw [pay4_apply]
  exact Finset.sum_congr rfl fun k _ => congrArg₂ (fun a b : EReal => a * b) (read0 m c t r k) (read1 m c t k l)

theorem lift_at (t : Fin cfg0.N) (r : Fin 512) (l : Fin 1024) :
    k0_pay5 (F := Ideal) (iblk m c 0 t) (iblk m c 2 t) (ix2 r l) = proj (Ah m c) (Au m c) (row t r) (col t l) := by
  rw [pay5_apply]
  exact Finset.sum_congr rfl fun k _ => congrArg₂ (fun a b : EReal => a * b) (read0 m c t r k) (read2 m c t k l)

/-- The eight rows above the tile, as the body takes them. -/
theorem pay6_first (t : Fin cfg0.N) (h : t.val / 6 % 16 = 0) (s : Vec Ideal S1x8x1024 .f32) (q : Fin 8) (l : Fin 1024) :
    k0_pay6 (F := Ideal) (grid0.coords t) s (ix2 q l) = 0 := by
  have ht := point_lt t
  unfold k0_pay6
  simp only [coord0]
  have hc : t.val / 6 = 0 ∨ t.val / 6 = 16 := by omega
  rcases hc with hc | hc <;> rw [hc] <;> exact Ideal.ofBits_zero_f32

theorem tile_word : ∀ n : Fin 32, n.val % 16 ≠ 0 →
    Scalar.cmpi .eq (Scalar.select (Scalar.andi (Scalar.xori (Scalar.cmpi .slt (Scalar.remsi (BitVec.ofNat 32 n.val) (Scalar.select (Scalar.cmpi .eq 16#32 0#32) 1#32 16#32)) 0#32)
        (Scalar.cmpi .slt (Scalar.select (Scalar.cmpi .eq 16#32 0#32) 1#32 16#32) 0#32))
        (Scalar.cmpi .ne (Scalar.remsi (BitVec.ofNat 32 n.val) (Scalar.select (Scalar.cmpi .eq 16#32 0#32) 1#32 16#32)) 0#32))
      (Scalar.addi (Scalar.remsi (BitVec.ofNat 32 n.val) (Scalar.select (Scalar.cmpi .eq 16#32 0#32) 1#32 16#32)) (Scalar.select (Scalar.cmpi .eq 16#32 0#32) 1#32 16#32))
      (Scalar.remsi (BitVec.ofNat 32 n.val) (Scalar.select (Scalar.cmpi .eq 16#32 0#32) 1#32 16#32))) 0#32 = 0#1 := by decide +kernel

theorem pay6_later (t : Fin cfg0.N) (h : t.val / 6 % 16 ≠ 0) (s : Vec Ideal S1x8x1024 .f32) (q : Fin 8) (l : Fin 1024) :
    k0_pay6 (F := Ideal) (grid0.coords t) s (ix2 q l) = s (ix3 0 q l) := by
  have ht := point_lt t
  unfold k0_pay6
  simp only [coord0]
  rw [tile_word ⟨t.val / 6, by omega⟩ h]
  show shapeCast S8x1024 s shapeCasts_S1x8x1024_S8x1024 (ix2 q l) = _
  pointwise

/-- A row `k` up from a tile's row is the token `k` back. -/
theorem up_at (t : Fin cfg0.N) (k : Nat) (h0 : 0 < k) (hk : k ≤ 8) (r : Fin 512) (l : Fin 1024) :
    up (k0_pay6 (F := Ideal) (grid0.coords t) (tailAt m c (before t))) (k0_pay4 (F := Ideal) (iblk m c 0 t) (iblk m c 1 t)) k hk r l
      = back k (fun n => proj (Ah m c) (Ag m c) n (col t l)) (row t r) := by
  have ht := point_lt t
  have hr := r.isLt
  have e : (row t r).val = t.val / 6 * 512 + r.val := rfl
  unfold up back
  by_cases h : k ≤ r.val
  · rw [dif_pos h, if_pos (by omega), gate_at]
    congr 1
    exact Fin.ext (by show t.val / 6 * 512 + (r.val - k) = t.val / 6 * 512 + r.val - k; omega)
  · rw [dif_neg h]
    by_cases hf : t.val / 6 % 16 = 0
    · rw [pay6_first t hf, if_neg (by omega)]
    · rw [pay6_later t hf, if_pos (by omega)]
      unfold tailAt
      rw [pay7_apply, gate_at]
      congr 1
      · exact Fin.ext (by show (t.val - 6) / 6 * 512 + (504 + (8 + r.val - k)) = t.val / 6 * 512 + r.val - k; omega)
      · exact Fin.ext (by show (t.val - 6) % 6 * 1024 + l.val = t.val % 6 * 1024 + l.val; omega)

/-- What a grid point adds to its tile's accumulator. -/
def part (t : Fin cfg0.N) (i : S512x2048.Idx) : EReal :=
  ∑ l : Fin 1024, activation (Ah m c) (Ag m c) (Au m c) (Aw m c) (Ab m c) (row t (i 0)) (col t l) * Ad m c (ix2 (col t l) (i 1))

theorem tap2_at (t : Fin cfg0.N) (l : Fin 1024) : View.ld (Val := Elt Ideal) (iblk m c 3 t) tapRect2 (ix2 0 l) = Aw m c (ix2 2 (col t l)) := by
  refine Eq.trans ?_ (read3 m c t 2 l)
  generalize iblk m c 3 t = X
  pointwise [tapRect2]

theorem tap1_at (t : Fin cfg0.N) (l : Fin 1024) : View.ld (Val := Elt Ideal) (iblk m c 3 t) tapRect1 (ix2 0 l) = Aw m c (ix2 1 (col t l)) := by
  refine Eq.trans ?_ (read3 m c t 1 l)
  generalize iblk m c 3 t = X
  pointwise [tapRect1]

theorem tap0_at (t : Fin cfg0.N) (l : Fin 1024) : View.ld (Val := Elt Ideal) (iblk m c 3 t) tapRect0 (ix2 0 l) = Aw m c (ix2 0 (col t l)) := by
  refine Eq.trans ?_ (read3 m c t 0 l)
  generalize iblk m c 3 t = X
  pointwise [tapRect0]

theorem conv_at (t : Fin cfg0.N) (r : Fin 512) (l : Fin 1024) :
    k0_pay9 (F := Ideal) (k0_pay6 (grid0.coords t) (tailAt m c (before t))) (k0_pay8 (iblk m c 0 t) (iblk m c 1 t)) lanes (iblk m c 4 t)
        (View.ld (iblk m c 3 t) tapRect2) (View.ld (iblk m c 3 t) tapRect1) (View.ld (iblk m c 3 t) tapRect0) (ix2 r l)
      = conv (Ab m c (ix1 (col t l))) (Aw m c (ix2 2 (col t l))) (Aw m c (ix2 1 (col t l))) (Aw m c (ix2 0 (col t l)))
          (fun n => proj (Ah m c) (Ag m c) n (col t l)) (row t r) := by
  refine (pay9_apply _ _ _ _ _ _ _ r l).trans ?_
  rw [up_at m c t 1 (by decide) (by decide), up_at m c t 2 (by decide) (by decide), gate_at]
  unfold conv
  exact congrArg₂ (fun a b : EReal => a + b) (congrArg₂ (fun a b : EReal => a + b) (congrArg₂ (fun a b : EReal => a + b) (read4 m c t l)
    (congrArg (fun a : EReal => a * _) (tap2_at m c t l))) (congrArg (fun a : EReal => a * _) (tap1_at m c t l))) (congrArg (fun a : EReal => a * _) (tap0_at m c t l))

theorem step_at (t : Fin cfg0.N) (a : Vec Ideal S512x2048 .f32) (r : Fin 512) (j : Fin 2048) :
    stepAt m c t a (ix2 r j) = a (ix2 r j) + part m c t (ix2 r j) := by
  refine (gated_apply _ _ _ _ _ _ _ a _ r j).trans (congrArg (fun b : EReal => a (ix2 r j) + b) ?_)
  refine Finset.sum_congr rfl fun l _ => ?_
  exact congrArg₂ (fun a b : EReal => a * b) (congrArg₂ (fun a b : EReal => a * b) (congrArg gelu (conv_at m c t r l)) (lift_at m c t r l)) (read5 m c t l j)

/-- The accumulator after a tile's last chunk is the product over all features. -/
theorem acc_at (t : Fin cfg0.N) (h : t.val % 6 = 5) (r : Fin 512) (j : Fin 2048) :
    accAt m c t.val t.isLt (ix2 r j) = down (Ah m c) (Ag m c) (Au m c) (Aw m c) (Ab m c) (Ad m c) (row t r) j := by
  have ht := point_lt t
  rw [Pipeline.eq_sum_fin_of_reset_step_apply_of_flush (M := EReal) (fun n h i => accAt m c n h i) 6 (fun _ => 0) (part m c)
    (fun t h i => by
      obtain ⟨r, j, rfl⟩ : ∃ (r : Fin 512) (j : Fin 2048), i = ix2 r j := ⟨i 0, i 1, eq_ix2 i⟩
      rw [accAt_first m c t h, step_at, pay3_apply])
    (fun t h i => by
      obtain ⟨r, j, rfl⟩ : ∃ (r : Fin 512) (j : Fin 2048), i = ix2 r j := ⟨i 0, i 1, eq_ix2 i⟩
      rw [accAt_next m c t h, step_at])
    t h (ix2 r j), zero_add]
  unfold down part
  refine Fin.sum_mul_add_congr fun s l hl => ?_
  have hs := s.isLt
  have er : row ⟨6 * (t.val / 6) + s.val, by have := N_0; show _ < cfg0.N; omega⟩ r = row t r :=
    Fin.ext (by show (6 * (t.val / 6) + s.val) / 6 * 512 + r.val = t.val / 6 * 512 + r.val; omega)
  have ec : col ⟨6 * (t.val / 6) + s.val, by have := N_0; show _ < cfg0.N; omega⟩ l = ⟨s.val * 1024 + l.val, hl⟩ :=
    Fin.ext (by show (6 * (t.val / 6) + s.val) % 6 * 1024 + l.val = s.val * 1024 + l.val; omega)
  show activation _ _ _ _ _ (row ⟨6 * (t.val / 6) + s.val, _⟩ r) (col ⟨6 * (t.val / 6) + s.val, _⟩ l) * _ = _
  rw [er]
  exact congrArg (fun f => activation _ _ _ _ _ (row t r) f * Ad m c (ix2 f j)) ec

theorem out_at (t : Fin cfg0.N) (h : t.val % 6 = 5) (r : Fin 512) (j : Fin 2048) :
    outAt m c t (ix2 r j) = result (Ah m c) (Ax m c) (Ag m c) (Au m c) (Aw m c) (Ab m c) (Ad m c) (Ar m c) (ix2 (row t r) j) := by
  unfold outAt
  rw [pay2_apply, read6, read7]
  simp only [acc_at m c t h]
  rfl

theorem value : (dats m 0 c).arrAt 8 cfg0.N = result (Ah m c) (Ax m c) (Ag m c) (Au m c) (Aw m c) (Ab m c) (Ad m c) (Ar m c) := by
  refine (dats m 0 c).arrAt_eq_of_covers 8 _ (by decide +kernel) fun t hf y => ?_
  obtain ⟨r, j, rfl⟩ : ∃ (r : Fin 512) (j : Fin 2048), y = ix2 r j := ⟨y 0, y 1, eq_ix2 y⟩
  have h5 : t.val % 6 = 5 := (flush0_8 t).mp hf
  blk_simp
  rw [after_8]
  refine (out_at m c t h5 r j).trans (congrArg _ ?_)
  blk_ext [row, idx t]

end Cert.KernelIdeal.Ffn
end
-- ==== Proof.ReferenceIdeal.Value.lean ====
/- The reference's result over the extended reals is the model's. -/
module

public import proofs.«01_k».proof.Proof.Gen.ReferenceIdeal.Read
public import proofs.«01_k».proof.Proof.Model

@[expose] public section

set_option maxRecDepth 16384

noncomputable section

namespace Cert.ReferenceIdeal.Ffn

open Cert.ReferenceIdeal Cert.ReferenceIdeal.Gen Cert.ReferenceIdeal.Read Cert.Mlp
open Idealize.ShloMosaic

variable (x0 : Vec Ideal S16384x2048 .bf16) (x1 : Vec Ideal S16384x2048 .f32) (x2 x3 : Vec Ideal S2048x6144 .f32) (x4 : Vec Ideal S3x6144 .f32)
variable (x5 : Vec Ideal S6144 .f32) (x6 : Vec Ideal S6144x2048 .f32) (x7 : Vec Ideal S2048 .f32)

/-- Token `s` of sequence `b` among all tokens. -/
def tok (b : Fin 2) (s : Fin 8192) : Fin 16384 := ⟨b.val * 8192 + s.val, by omega⟩

theorem gate (b : Fin 2) (s : Fin 8192) (f : Fin 6144) : val_main_v2 (F := Ideal) x0 x2 (ix3 b s f) = proj x0 x2 (tok b s) f := by
  pointwise [val_main_v2, val_main_v1, val_main_v0, proj, tok]

theorem lift (b : Fin 2) (s : Fin 8192) (f : Fin 6144) : val_main_v42 (F := Ideal) x0 x3 (ix3 b s f) = proj x0 x3 (tok b s) f := by
  pointwise [val_main_v42, val_main_v1, val_main_v0, proj, tok]

theorem zero_word : (FloatOps.sitofp (F := Ideal) .f32 0#32 : EReal) = 0 := by
  show (((0#32 : BitVec 32).toInt : ℝ) : EReal) = 0
  simp

theorem padded (b : Fin 2) (s : Fin 8194) (f : Fin 6144) :
    val_main_v3 (F := Ideal) x0 x2 (ix3 b s f) = if h : 2 ≤ s.val then proj x0 x2 (tok b ⟨s.val - 2, by omega⟩) f else 0 := by
  have hs := s.isLt
  by_cases h : 2 ≤ s.val
  · rw [dif_pos h, ← gate]
    pointwise [val_main_v3, val_main_call0_v0, val_main_c]
    rw [dif_pos (by omega)]
  · rw [dif_neg h]
    pointwise [val_main_v3, val_main_call0_v0, val_main_c]
    rw [dif_neg (by omega), zero_word]

theorem taps_comm (a0 a1 a2 w0 w1 w2 b : EReal) : a0 * w0 + a1 * w1 + a2 * w2 + b = b + w2 * a2 + w1 * a1 + w0 * a0 := by
  rw [mul_comm a0, mul_comm a1, mul_comm a2, add_comm _ b, add_comm (w0 * a0), add_right_comm, add_comm _ (w2 * a2), ← add_assoc, ← add_assoc]

theorem conv_apply (b : Fin 2) (s : Fin 8192) (f : Fin 6144) :
    val_main_v28 (F := Ideal) x0 x2 x4 x5 (ix3 b s f)
      = conv (x5 (ix1 f)) (x4 (ix2 2 f)) (x4 (ix2 1 f)) (x4 (ix2 0 f)) (fun n => proj x0 x2 n f) (tok b s) := by
  have hs := s.isLt
  have et : (tok b s).val % 8192 = s.val := by show (b.val * 8192 + s.val) % 8192 = s.val; omega
  have e0 : val_main_v4 (F := Ideal) x0 x2 (ix3 b s f) = back 2 (fun n => proj x0 x2 n f) (tok b s) := by
    pointwise [val_main_v4]
    rw [padded]
    unfold back
    rw [et]
    by_cases h : 2 ≤ s.val
    · rw [dif_pos h, if_pos h]
      congr 1
      exact Fin.ext (by show b.val * 8192 + (s.val - 2) = b.val * 8192 + s.val - 2; omega)
    · rw [dif_neg h, if_neg h]
  have e1 : val_main_v12 (F := Ideal) x0 x2 (ix3 b s f) = back 1 (fun n => proj x0 x2 n f) (tok b s) := by
    pointwise [val_main_v12]
    rw [padded]
    unfold back
    rw [et]
    by_cases h : 1 ≤ s.val
    · rw [dif_pos (by show 2 ≤ 1 + s.val; omega), if_pos h]
      congr 1
      exact Fin.ext (by show b.val * 8192 + (1 + s.val - 2) = b.val * 8192 + s.val - 1; omega)
    · rw [dif_neg (by show ¬ 2 ≤ 1 + s.val; omega), if_neg h]
  have e2 : val_main_v19 (F := Ideal) x0 x2 (ix3 b s f) = proj x0 x2 (tok b s) f := by
    pointwise [val_main_v19]
    rw [padded, dif_pos (by show 2 ≤ 2 + s.val; omega)]
    congr 1
    exact Fin.ext (by show b.val * 8192 + (2 + s.val - 2) = b.val * 8192 + s.val; omega)
  unfold conv
  rw [← e0, ← e1]
  show _ = x5 (ix1 f) + x4 (ix2 2 f) * proj x0 x2 (tok b s) f + _ + _
  rw [← e2]
  pointwise [val_main_v28, val_main_v27, val_main_v26, val_main_v25, val_main_v24, val_main_v23, val_main_v22, val_main_v21, val_main_v20, val_main_v18, val_main_v17, val_main_v16, val_main_v15, val_main_v14, val_main_v13, val_main_v11, val_main_v10, val_main_cst, val_main_v9, val_main_v8, val_main_v7, val_main_v6, val_main_v5]
  exact taps_comm _ _ _ _ _ _ _

theorem activation_apply (b : Fin 2) (s : Fin 8192) (f : Fin 6144) :
    val_main_v43 (F := Ideal) x0 x2 x3 x4 x5 (ix3 b s f) = activation x0 x2 x3 x4 x5 (tok b s) f := by
  unfold activation
  rw [← conv_apply, ← lift]
  pointwise [val_main_v43, val_main_v41, val_main_v40, val_main_v39, val_main_v38, val_main_v37, val_main_v36, val_main_v35, val_main_v34, val_main_v33, val_main_v32, val_main_v31, val_main_v30, val_main_v29, val_main_cst_0, val_main_cst_1, val_main_cst_2, val_main_cst_3, gelu]

theorem down_apply (b : Fin 2) (s : Fin 8192) (j : Fin 2048) :
    val_main_v44 (F := Ideal) x0 x2 x3 x4 x5 x6 (ix3 b s j) = down x0 x2 x3 x4 x5 x6 (tok b s) j := by
  unfold down
  simp only [← activation_apply]
  pointwise [val_main_v44]

theorem result_apply : val_main_v60 (F := Ideal) x0 x1 x2 x3 x4 x5 x6 x7 = result x0 x1 x2 x3 x4 x5 x6 x7 := by
  funext i
  obtain ⟨n, j, rfl⟩ : ∃ (n : Fin 16384) (j : Fin 2048), i = ix2 n j := ⟨i 0, i 1, eq_ix2 i⟩
  have hn : n = tok ⟨n.val / 8192, by omega⟩ ⟨n.val % 8192, by omega⟩ := Fin.ext (by show n.val = n.val / 8192 * 8192 + n.val % 8192; omega)
  show _ = normAdd (x1 (ix2 n j)) (down x0 x2 x3 x4 x5 x6 n) (x7 (ix1 j)) j
  unfold normAdd
  have ed : ∀ j, down x0 x2 x3 x4 x5 x6 n j = val_main_v44 (F := Ideal) x0 x2 x3 x4 x5 x6 (ix3 ⟨n.val / 8192, by omega⟩ ⟨n.val % 8192, by omega⟩ j) := fun j => by
    rw [down_apply, ← hn]
  simp only [ed]
  pointwise [val_main_v60, val_main_v59, val_main_v58, val_main_v57, val_main_v56, val_main_v55, val_main_v54, val_main_v53, val_main_v52, val_main_v51, val_main_v50, val_main_v49, val_main_v48, val_main_v47, val_main_v46, val_main_v45, val_main_cst_4, val_main_cst_5, val_main_cst_6]

end Cert.ReferenceIdeal.Ffn
end
-- ==== Proof.Kernel2Ideal.Values.lean ====
/- The values the input projection's kernel computes at one grid point, as functions of its input blocks and of the
   scratch buffers it continues from. -/
module

public import proofs.«01_k».proof.Proof.Gen.Kernel2Ideal.Skeleton
public import Idealize.ShloMosaic.Lib.Pipeline.Value

@[expose] public section

set_option maxRecDepth 65536

noncomputable section

namespace Cert.Kernel2Ideal.Mix

open Cert.Kernel2Ideal Cert.Kernel2Ideal.Gen
open Idealize.ShloMosaic

variable {F : FTy → Type} [FloatOps F]

/-! ## The values -/

/-- The input blocks of one point. -/
structure Blocks (F : FTy → Type) where
  x0 : Vec F S1x512x2048 .f32
  x1 : Vec F S1x2048 .f32
  x2 : Vec F S1024x2048 .bf16
  x3 : Vec F S1024x2048 .bf16
  x4 : Vec F S2048x1024 .bf16
  x5 : Vec F S2048x2048 .bf16
  x6 : Vec F S2048x128 .bf16
  x7 : Vec F S1x128 .f32
  x8 : Vec F S1024x128 .bf16
  x9 : Vec F S4x1024 .f32
  x10 : Vec F S1x1024 .f32
  x11 : Vec F S4x256x512 .bf16
  x12 : Vec F S1x1024 .f32
  x13 : Vec F S1x1024 .f32
  x14 : Vec F S1x1024 .f32

abbrev wideA : Rect S2048x2048 := Rect.unit (s := S2048x2048) ![0, 0] S2048x1024.size inb_S2048x2048_S2048x1024_0_0
abbrev wideB : Rect S2048x2048 := Rect.unit (s := S2048x2048) ![0, 1024] S2048x1024.size inb_S2048x2048_S2048x1024_0_1024
abbrev tap0 : Rect S4x1024 := Rect.unit (s := S4x1024) ![0, 0] S1x1024.size inb_S4x1024_S1x1024_0_0
abbrev tap1 : Rect S4x1024 := Rect.unit (s := S4x1024) ![1, 0] S1x1024.size inb_S4x1024_S1x1024_1_0
abbrev tap2 : Rect S4x1024 := Rect.unit (s := S4x1024) ![2, 0] S1x1024.size inb_S4x1024_S1x1024_2_0
abbrev tap3 : Rect S4x1024 := Rect.unit (s := S4x1024) ![3, 0] S1x1024.size inb_S4x1024_S1x1024_3_0
abbrev diag0 : Rect S4x256x512 := Rect.unit (s := S4x256x512) ![0, 0, 0] S1x256x512.size inb_S4x256x512_S1x256x512_0_0_0
abbrev diag1 : Rect S4x256x512 := Rect.unit (s := S4x256x512) ![1, 0, 0] S1x256x512.size inb_S4x256x512_S1x256x512_1_0_0
abbrev diag2 : Rect S4x256x512 := Rect.unit (s := S4x256x512) ![2, 0, 0] S1x256x512.size inb_S4x256x512_S1x256x512_2_0_0
abbrev diag3 : Rect S4x256x512 := Rect.unit (s := S4x256x512) ![3, 0, 0] S1x256x512.size inb_S4x256x512_S1x256x512_3_0_0

/-- The sublane numbers the selects compare. -/
abbrev lanes : IVec S64x8x1024 32 := iota .tc S64x8x1024 32 [1] iota_S64x8x1024_d1_w32

/-- Whether the point is a sequence's first, as a word of one bit. -/
abbrev start (i : grid0.Coords) : BitVec 1 := Scalar.cmpi .eq (BitVec.ofNat 32 (i 1).val) 0#32

/-- The condition of the body's branch: the point is a sequence's first. -/
abbrev first (i : grid0.Coords) : Prop := (Scalar.cmpi .ne (Scalar.extui (Scalar.cmpi .eq (BitVec.ofNat 32 (i 1).val) 0#32)) 0#32) = 1#1

section Values
variable (X : Blocks F)

/-- The normalised rows. -/
def rows : FVec F S512x2048 .bf16 := k0_pay6 X.x0 X.x1
/-- The recurrence's input and the gate branch, before the convolution. -/
def feed : FVec F S512x1024 .f32 := k0_pay10 (rows X) (View.ld X.x5 wideA)
def branch : FVec F S512x1024 .f32 := k0_pay11 (rows X) (View.ld X.x5 wideB)

/-- The convolution's part with the two nearest taps, and its two farthest taps' rows. -/
def near (u : Vec F S8x1024 .f32) : FVec F S64x8x1024 .f32 :=
  k0_pay13 (rows X) (View.ld X.x5 wideA) u X.x10 (View.ld X.x9 tap3) (View.ld X.x9 tap2)
def grouped : FVec F S64x8x1024 .f32 := k0_pay12 (rows X) (View.ld X.x5 wideA)

def conv (u : Vec F S8x1024 .f32) : FVec F S512x1024 .f32 := k0_pay15 (grouped X) u lanes (near X u) (View.ld X.x9 tap1) (View.ld X.x9 tap0)
def convB (u : Vec F S8x1024 .f32) : FVec F S512x1024 .bf16 := k0_pay16 (grouped X) u lanes (near X u) (View.ld X.x9 tap1) (View.ld X.x9 tap0)

/-- The input gate, and the recurrence gate times its factor. -/
def gateI (u : Vec F S8x1024 .f32) : FVec F S512x1024 .f32 :=
  k0_pay24 (convB X u) (k0_pay19 (grouped X) u lanes (near X u) (View.ld X.x9 tap1) (View.ld X.x9 tap0) (View.ld X.x11 diag0))
    (k0_pay20 (grouped X) u lanes (near X u) (View.ld X.x9 tap1) (View.ld X.x9 tap0)) (View.ld X.x11 diag1) (View.ld X.x11 diag2) (View.ld X.x11 diag3) X.x13
def gateR (u : Vec F S8x1024 .f32) : FVec F S512x1024 .f32 :=
  k0_pay25 (convB X u) (k0_pay18 (grouped X) u lanes (near X u) (View.ld X.x9 tap1) (View.ld X.x9 tap0) (View.ld X.x11 diag0))
    (k0_pay20 (grouped X) u lanes (near X u) (View.ld X.x9 tap1) (View.ld X.x9 tap0)) (View.ld X.x11 diag1) (View.ld X.x11 diag2) (View.ld X.x11 diag3) X.x12

/-- The multipliers after the first doubling, and the addends after the first two. -/
def mult1 (u : Vec F S8x1024 .f32) : FVec F S64x8x1024 .f32 := k0_pay33 lanes (gateR X u) (k0_pay27 X.x14) (k0_pay28 X.x14)
def adds2 (w : BitVec 1) (u : Vec F S8x1024 .f32) : FVec F S64x8x1024 .f32 :=
  k0_pay35 w (conv X u) lanes (gateI X u) (gateR X u) (k0_pay27 X.x14) (k0_pay28 X.x14)

end Values

/-! ### The sequential part, over any multipliers and addends of the groups of eight tokens -/

section Seq
variable (l : IVec S64x8x1024 32) (a1 : FVec F S64x8x1024 .f32) (g : IVec S64x8x1024 1) (b2 : FVec F S64x8x1024 .f32) (h : Vec F S1x1024 .f32)

abbrev mult : FVec F S64x8x1024 .f32 := k0_pay39 l a1 g 2#32
abbrev adds : FVec F S64x8x1024 .f32 := k0_pay38 l a1 g b2 2#32

def c5 : FVec F S1x1024 .f32 := k0_pay45 l a1 g b2 2#32 h
def c12 : FVec F S8x1024 .f32 := k0_pay53 (adds l a1 g b2) (mult l a1 g) (c5 l a1 g b2 h)
def c20 : FVec F S1x1024 .f32 := k0_pay62 (adds l a1 g b2) (mult l a1 g) (c12 l a1 g b2 h)
def c27 : FVec F S8x1024 .f32 := k0_pay70 (adds l a1 g b2) (mult l a1 g) (c20 l a1 g b2 h)
def c35 : FVec F S1x1024 .f32 := k0_pay79 (adds l a1 g b2) (mult l a1 g) (c27 l a1 g b2 h)
def c42 : FVec F S8x1024 .f32 := k0_pay87 (adds l a1 g b2) (mult l a1 g) (c35 l a1 g b2 h)
def c50 : FVec F S1x1024 .f32 := k0_pay96 (adds l a1 g b2) (mult l a1 g) (c42 l a1 g b2 h)
def c57 : FVec F S8x1024 .f32 := k0_pay104 (adds l a1 g b2) (mult l a1 g) (c50 l a1 g b2 h)

/-- The states of all rows of the tile, and the last of them. -/
def states : FVec F S512x1024 .f32 :=
  k0_pay113 (adds l a1 g b2) (mult l a1 g)
    (k0_pay40 l a1 g b2 2#32 h) (k0_pay41 l a1 g b2 2#32 h) (k0_pay42 l a1 g b2 2#32 h) (k0_pay43 l a1 g b2 2#32 h)
    (k0_pay44 l a1 g b2 2#32 h) (k0_pay46 (adds l a1 g b2) (mult l a1 g) (c5 l a1 g b2 h)) (k0_pay47 (adds l a1 g b2) (mult l a1 g) (c5 l a1 g b2 h)) (k0_pay48 (adds l a1 g b2) (mult l a1 g) (c5 l a1 g b2 h))
    (k0_pay49 (adds l a1 g b2) (mult l a1 g) (c5 l a1 g b2 h)) (k0_pay50 (adds l a1 g b2) (mult l a1 g) (c5 l a1 g b2 h)) (k0_pay51 (adds l a1 g b2) (mult l a1 g) (c5 l a1 g b2 h)) (k0_pay52 (adds l a1 g b2) (mult l a1 g) (c5 l a1 g b2 h))
    (k0_pay54 (adds l a1 g b2) (c12 l a1 g b2 h)) (k0_pay55 (adds l a1 g b2) (mult l a1 g) (c12 l a1 g b2 h)) (k0_pay56 (adds l a1 g b2) (mult l a1 g) (c12 l a1 g b2 h)) (k0_pay57 (adds l a1 g b2) (mult l a1 g) (c12 l a1 g b2 h))
    (k0_pay58 (adds l a1 g b2) (mult l a1 g) (c12 l a1 g b2 h)) (k0_pay59 (adds l a1 g b2) (mult l a1 g) (c12 l a1 g b2 h)) (k0_pay60 (adds l a1 g b2) (mult l a1 g) (c12 l a1 g b2 h)) (k0_pay61 (adds l a1 g b2) (mult l a1 g) (c12 l a1 g b2 h))
    (k0_pay63 (adds l a1 g b2) (mult l a1 g) (c20 l a1 g b2 h)) (k0_pay64 (adds l a1 g b2) (mult l a1 g) (c20 l a1 g b2 h)) (k0_pay65 (adds l a1 g b2) (mult l a1 g) (c20 l a1 g b2 h)) (k0_pay66 (adds l a1 g b2) (mult l a1 g) (c20 l a1 g b2 h))
    (k0_pay67 (adds l a1 g b2) (mult l a1 g) (c20 l a1 g b2 h)) (k0_pay68 (adds l a1 g b2) (mult l a1 g) (c20 l a1 g b2 h)) (k0_pay69 (adds l a1 g b2) (mult l a1 g) (c20 l a1 g b2 h)) (k0_pay71 (adds l a1 g b2) (c27 l a1 g b2 h))
    (k0_pay72 (adds l a1 g b2) (mult l a1 g) (c27 l a1 g b2 h)) (k0_pay73 (adds l a1 g b2) (mult l a1 g) (c27 l a1 g b2 h)) (k0_pay74 (adds l a1 g b2) (mult l a1 g) (c27 l a1 g b2 h)) (k0_pay75 (adds l a1 g b2) (mult l a1 g) (c27 l a1 g b2 h))
    (k0_pay76 (adds l a1 g b2) (mult l a1 g) (c27 l a1 g b2 h)) (k0_pay77 (adds l a1 g b2) (mult l a1 g) (c27 l a1 g b2 h)) (k0_pay78 (adds l a1 g b2) (mult l a1 g) (c27 l a1 g b2 h)) (k0_pay80 (adds l a1 g b2) (mult l a1 g) (c35 l a1 g b2 h))
    (k0_pay81 (adds l a1 g b2) (mult l a1 g) (c35 l a1 g b2 h)) (k0_pay82 (adds l a1 g b2) (mult l a1 g) (c35 l a1 g b2 h)) (k0_pay83 (adds l a1 g b2) (mult l a1 g) (c35 l a1 g b2 h)) (k0_pay84 (adds l a1 g b2) (mult l a1 g) (c35 l a1 g b2 h))
    (k0_pay85 (adds l a1 g b2) (mult l a1 g) (c35 l a1 g b2 h)) (k0_pay86 (adds l a1 g b2) (mult l a1 g) (c35 l a1 g b2 h)) (k0_pay88 (adds l a1 g b2) (c42 l a1 g b2 h)) (k0_pay89 (adds l a1 g b2) (mult l a1 g) (c42 l a1 g b2 h))
    (k0_pay90 (adds l a1 g b2) (mult l a1 g) (c42 l a1 g b2 h)) (k0_pay91 (adds l a1 g b2) (mult l a1 g) (c42 l a1 g b2 h)) (k0_pay92 (adds l a1 g b2) (mult l a1 g) (c42 l a1 g b2 h)) (k0_pay93 (adds l a1 g b2) (mult l a1 g) (c42 l a1 g b2 h))
    (k0_pay94 (adds l a1 g b2) (mult l a1 g) (c42 l a1 g b2 h)) (k0_pay95 (adds l a1 g b2) (mult l a1 g) (c42 l a1 g b2 h)) (k0_pay97 (adds l a1 g b2) (mult l a1 g) (c50 l a1 g b2 h)) (k0_pay98 (adds l a1 g b2) (mult l a1 g) (c50 l a1 g b2 h))
    (k0_pay99 (adds l a1 g b2) (mult l a1 g) (c50 l a1 g b2 h)) (k0_pay100 (adds l a1 g b2) (mult l a1 g) (c50 l a1 g b2 h)) (k0_pay101 (adds l a1 g b2) (mult l a1 g) (c50 l a1 g b2 h)) (k0_pay102 (adds l a1 g b2) (mult l a1 g) (c50 l a1 g b2 h))
    (k0_pay103 (adds l a1 g b2) (mult l a1 g) (c50 l a1 g b2 h))
    (c57 l a1 g b2 h)
def lastRow : FVec F S1x1024 .f32 := k0_pay112 (adds l a1 g b2) (mult l a1 g) (c57 l a1 g b2 h)

end Seq

section Outputs
variable (X : Blocks F) (w : BitVec 1) (s0 : Vec F S1x128 .f32) (s1 : Vec F S8x1024 .f32) (s2 : Vec F S1x1024 .f32)

def sums : FVec F S512x128 .f32 := k0_pay117 (k0_pay9 (k0_pay7 X.x0 X.x1 X.x6 X.x7) k0_pay8 (Scalar.ofBits .f32 0x00000000#32))
def keyRows : FVec F S512x1024 .bf16 := k0_pay123 (rows X) X.x4

def out0 : Vec F S1x1024x512 .bf16 := k0_pay116 (rows X) X.x2
def out1 : Vec F S1x512x1024 .bf16 := k0_pay1 (keyRows X)
def out2 : Vec F S1x1024x512 .bf16 := k0_pay122 (rows X) X.x3
def out3 : Vec F S1x512x128 .bf16 := k0_pay121 (iota .tc S512x128 32 [1] iota_S512x128_d1_w32) (sums X) s0
def out4 : Vec F S1x512x1024 .bf16 := k0_pay115 (branch X) (states lanes (mult1 X s1) (k0_pay34 lanes) (adds2 X w s1) s2) (k0_pay114 (branch X))
def out5 : Vec F S1x1x8x128 .f32 := k0_pay2 (k0_pay120 (sums X) s0) (keyRows X) X.x8
def next0 : Vec F S1x128 .f32 := k0_pay119 (sums X) s0
def next1 : Vec F S8x1024 .f32 := k0_pay14 (feed X)
def next2 : Vec F S1x1024 .f32 := lastRow lanes (mult1 X s1) (k0_pay34 lanes) (adds2 X w s1) s2

end Outputs

end Cert.Kernel2Ideal.Mix

end
-- ==== Proof.Kernel2Ideal.Body.lean ====
/- The body of the input projection's kernel at one grid point, run on any whole staging memrefs: what it leaves in
   its six output tiles and in the three scratch buffers that carry a sequence's state from tile to tile. -/
module

public import proofs.«01_k».proof.Proof.Gen.Kernel2Ideal.Frame.Runs
public import proofs.«01_k».proof.Proof.Kernel2Ideal.Values
public import Idealize.ShloMosaic.Lib.Pipeline.Value

@[expose] public section

set_option maxRecDepth 65536

noncomputable section

namespace Cert.Kernel2Ideal.Mix

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The run -/

/-- What a store through the whole shape, made last, leaves to be read. -/
theorem read_last {S : Shape} {e : EltTy} (v : View sig .tc .vmem S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  funext y
  have hy : (Rect.unit off S.size inb).emb y = y := by subst h; exact Rect.emb_whole_apply _ y
  have := View.read_writes_cons_emb (v := v) (f := f) (Rect.unit off S.size inb) w L y
  rwa [hy] at this

theorem zero2 : (![0, 0] : Fin 2 → Nat) = fun _ => 0 := by decide
theorem zero3 : (![0, 0, 0] : Fin 3 → Nat) = fun _ => 0 := by decide
theorem zero4 : (![0, 0, 0, 0] : Fin 4 → Nat) = fun _ => 0 := by decide

/-- A load through the whole shape of a buffer at known contents. -/
theorem readAt_whole {S : Shape} {e : EltTy} {m : Memref sig .tc .vmem S e} (hm : m.IsWhole) {off : Fin S.rank → Nat} (h : off = fun _ => 0)
    (inb : ∀ a, off a + S.size a ≤ S.size a) (X : S.Idx → Elt F e) :
    m.view.readAt (Elt F) (Rect.unit off S.size inb).toLoadRect (hm.unread X) = X :=
  (View.readAt_eq_ld _ _ _).trans ((congrArg (View.ld · _) (hm.read_unread X)).trans (View.ld_unit_zero h inb X))

theorem readAt_rect {S : Shape} {e : EltTy} {m : Memref sig .tc .vmem S e} (hm : m.IsWhole) (r : Rect S) (X : S.Idx → Elt F e) :
    m.view.readAt (Elt F) r.toLoadRect (hm.unread X) = View.ld X r :=
  (View.readAt_eq_ld _ _ _).trans (congrArg (View.ld · _) (hm.read_unread X))

variable (c : Dev nD) (i : grid0.Coords)
  (arg2 : Memref sig .tc .vmem S1x512x2048 .f32) (harg2 : arg2.IsWhole)
  (arg3 : Memref sig .tc .vmem S1x2048 .f32) (harg3 : arg3.IsWhole)
  (arg4 : Memref sig .tc .vmem S1024x2048 .bf16) (harg4 : arg4.IsWhole)
  (arg5 : Memref sig .tc .vmem S1024x2048 .bf16) (harg5 : arg5.IsWhole)
  (arg6 : Memref sig .tc .vmem S2048x1024 .bf16) (harg6 : arg6.IsWhole)
  (arg7 : Memref sig .tc .vmem S2048x2048 .bf16) (harg7 : arg7.IsWhole)
  (arg8 : Memref sig .tc .vmem S2048x128 .bf16) (harg8 : arg8.IsWhole)
  (arg9 : Memref sig .tc .vmem S1x128 .f32) (harg9 : arg9.IsWhole)
  (arg10 : Memref sig .tc .vmem S1024x128 .bf16) (harg10 : arg10.IsWhole)
  (arg11 : Memref sig .tc .vmem S4x1024 .f32) (harg11 : arg11.IsWhole)
  (arg12 : Memref sig .tc .vmem S1x1024 .f32) (harg12 : arg12.IsWhole)
  (arg13 : Memref sig .tc .vmem S4x256x512 .bf16) (harg13 : arg13.IsWhole)
  (arg14 : Memref sig .tc .vmem S1x1024 .f32) (harg14 : arg14.IsWhole)
  (arg15 : Memref sig .tc .vmem S1x1024 .f32) (harg15 : arg15.IsWhole)
  (arg16 : Memref sig .tc .vmem S1x1024 .f32) (harg16 : arg16.IsWhole)
  (arg17 : Memref sig .tc .vmem S1x1024x512 .bf16) (harg17 : arg17.IsWhole)
  (arg18 : Memref sig .tc .vmem S1x512x1024 .bf16) (harg18 : arg18.IsWhole)
  (arg19 : Memref sig .tc .vmem S1x1024x512 .bf16) (harg19 : arg19.IsWhole)
  (arg20 : Memref sig .tc .vmem S1x512x128 .bf16) (harg20 : arg20.IsWhole)
  (arg21 : Memref sig .tc .vmem S1x512x1024 .bf16) (harg21 : arg21.IsWhole)
  (arg22 : Memref sig .tc .vmem S1x1x8x128 .f32) (harg22 : arg22.IsWhole)
  (arg23 : Memref sig .tc .vmem S1x128 .f32) (harg23 : arg23.IsWhole)
  (arg24 : Memref sig .tc .vmem S8x1024 .f32) (harg24 : arg24.IsWhole)
  (arg25 : Memref sig .tc .vmem S1x1024 .f32) (harg25 : arg25.IsWhole)
  (X : Blocks F)

/-- The input buffers at their blocks. -/
abbrev ins : sProp 𝕄 :=
  iprop(owns (c : Thread nD τ) arg2 fullShare X.x0
    ∗ owns (c : Thread nD τ) arg3 fullShare X.x1
    ∗ owns (c : Thread nD τ) arg4 fullShare X.x2
    ∗ owns (c : Thread nD τ) arg5 fullShare X.x3
    ∗ owns (c : Thread nD τ) arg6 fullShare X.x4
    ∗ owns (c : Thread nD τ) arg7 fullShare X.x5
    ∗ owns (c : Thread nD τ) arg8 fullShare X.x6
    ∗ owns (c : Thread nD τ) arg9 fullShare X.x7
    ∗ owns (c : Thread nD τ) arg10 fullShare X.x8
    ∗ owns (c : Thread nD τ) arg11 fullShare X.x9
    ∗ owns (c : Thread nD τ) arg12 fullShare X.x10
    ∗ owns (c : Thread nD τ) arg13 fullShare X.x11
    ∗ owns (c : Thread nD τ) arg14 fullShare X.x12
    ∗ owns (c : Thread nD τ) arg15 fullShare X.x13
    ∗ owns (c : Thread nD τ) arg16 fullShare X.x14)

end Cert.Kernel2Ideal.Mix

end
-- ==== Proof.Kernel2Ideal.First.lean ====
/- The body of the input projection's kernel at a sequence's first point, which zeroes the scratch buffers. -/
module

public import proofs.«01_k».proof.Proof.Kernel2Ideal.Body

@[expose] public section

set_option maxRecDepth 65536

noncomputable section

namespace Cert.Kernel2Ideal.Mix

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1x512x2048 .f32) (harg2 : arg2.IsWhole)
  (arg3 : Memref sig .tc .vmem S1x2048 .f32) (harg3 : arg3.IsWhole)
  (arg4 : Memref sig .tc .vmem S1024x2048 .bf16) (harg4 : arg4.IsWhole)
  (arg5 : Memref sig .tc .vmem S1024x2048 .bf16) (harg5 : arg5.IsWhole)
  (arg6 : Memref sig .tc .vmem S2048x1024 .bf16) (harg6 : arg6.IsWhole)
  (arg7 : Memref sig .tc .vmem S2048x2048 .bf16) (harg7 : arg7.IsWhole)
  (arg8 : Memref sig .tc .vmem S2048x128 .bf16) (harg8 : arg8.IsWhole)
  (arg9 : Memref sig .tc .vmem S1x128 .f32) (harg9 : arg9.IsWhole)
  (arg10 : Memref sig .tc .vmem S1024x128 .bf16) (harg10 : arg10.IsWhole)
  (arg11 : Memref sig .tc .vmem S4x1024 .f32) (harg11 : arg11.IsWhole)
  (arg12 : Memref sig .tc .vmem S1x1024 .f32) (harg12 : arg12.IsWhole)
  (arg13 : Memref sig .tc .vmem S4x256x512 .bf16) (harg13 : arg13.IsWhole)
  (arg14 : Memref sig .tc .vmem S1x1024 .f32) (harg14 : arg14.IsWhole)
  (arg15 : Memref sig .tc .vmem S1x1024 .f32) (harg15 : arg15.IsWhole)
  (arg16 : Memref sig .tc .vmem S1x1024 .f32) (harg16 : arg16.IsWhole)
  (arg17 : Memref sig .tc .vmem S1x1024x512 .bf16) (harg17 : arg17.IsWhole)
  (arg18 : Memref sig .tc .vmem S1x512x1024 .bf16) (harg18 : arg18.IsWhole)
  (arg19 : Memref sig .tc .vmem S1x1024x512 .bf16) (harg19 : arg19.IsWhole)
  (arg20 : Memref sig .tc .vmem S1x512x128 .bf16) (harg20 : arg20.IsWhole)
  (arg21 : Memref sig .tc .vmem S1x512x1024 .bf16) (harg21 : arg21.IsWhole)
  (arg22 : Memref sig .tc .vmem S1x1x8x128 .f32) (harg22 : arg22.IsWhole)
  (arg23 : Memref sig .tc .vmem S1x128 .f32) (harg23 : arg23.IsWhole)
  (arg24 : Memref sig .tc .vmem S8x1024 .f32) (harg24 : arg24.IsWhole)
  (arg25 : Memref sig .tc .vmem S1x1024 .f32) (harg25 : arg25.IsWhole)
  (X : Blocks F)

set_option maxHeartbeats 8000000 in
/-- The body at a sequence's first point: the three scratch buffers are zeroed before they are read. -/
theorem run_first (hc : first i) (s0 : Vec F S1x128 .f32) (s1 : Vec F S8x1024 .f32) (s2 : Vec F S1x1024 .f32) (E : Set ℕ) (K : PUnit → sProp 𝕄) :
    iprop(ins c arg2 arg3 arg4 arg5 arg6 arg7 arg8 arg9 arg10 arg11 arg12 arg13 arg14 arg15 arg16 X
        ∗ (∃ d, owns (c : Thread nD τ) arg17 fullShare d)
        ∗ (∃ d, owns (c : Thread nD τ) arg18 fullShare d)
        ∗ (∃ d, owns (c : Thread nD τ) arg19 fullShare d)
        ∗ (∃ d, owns (c : Thread nD τ) arg20 fullShare d)
        ∗ (∃ d, owns (c : Thread nD τ) arg21 fullShare d)
        ∗ (∃ d, owns (c : Thread nD τ) arg22 fullShare d)
        ∗ owns (c : Thread nD τ) arg23 fullShare s0
        ∗ owns (c : Thread nD τ) arg24 fullShare s1
        ∗ owns (c : Thread nD τ) arg25 fullShare s2
        ∗ (iprop(ins c arg2 arg3 arg4 arg5 arg6 arg7 arg8 arg9 arg10 arg11 arg12 arg13 arg14 arg15 arg16 X
            ∗ owns (c : Thread nD τ) arg17 fullShare (out0 X)
            ∗ owns (c : Thread nD τ) arg18 fullShare (out1 X)
            ∗ owns (c : Thread nD τ) arg19 fullShare (out2 X)
            ∗ owns (c : Thread nD τ) arg20 fullShare (out3 X k0_pay3)
            ∗ owns (c : Thread nD τ) arg21 fullShare (out4 X (start i) k0_pay4 k0_pay5)
            ∗ owns (c : Thread nD τ) arg22 fullShare (out5 X k0_pay3)
            ∗ owns (c : Thread nD τ) arg23 fullShare (next0 X k0_pay3)
            ∗ owns (c : Thread nD τ) arg24 fullShare (next1 X)
            ∗ owns (c : Thread nD τ) arg25 fullShare (next2 X (start i) k0_pay4 k0_pay5)) -∗ K ⟨⟩))
      ⊢ wp frame (wpE (defs₀ (F := F)) Variants.none c none) E
          (cc0_in_projection i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_in_projection_eq_skeleton]; unfold cc0_in_projection_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, ⟨%d0, %g0, -, O0⟩, ⟨%d1, %g1, -, O1⟩, ⟨%d2, %g2, -, O2⟩, ⟨%d3, %g3, -, O3⟩, ⟨%d4, %g4, -, O4⟩, ⟨%d5, %g5, -, O5⟩, ⟨%e0, %he0, S0⟩, ⟨%e1, %he1, S1⟩, ⟨%e2, %he2, S2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
  obtain rfl := harg23.eq_unread he0; obtain rfl := harg24.eq_unread he1; obtain rfl := harg25.eq_unread he2
  sl_exec (disch := first | sl_exact hc)
  sl_step
  iapply Hk
  isplitl [H0 H1 H2 H3 H4 H5 H6 H7 H8 H9 H10 H11 H12 H13 H14]
  · isplitl [H0]; · iexists _; isplitr; swap; (· iexact H0); ipureintro; exact hf0
    isplitl [H1]; · iexists _; isplitr; swap; (· iexact H1); ipureintro; exact hf1
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    isplitl [H5]; · iexists _; isplitr; swap; (· iexact H5); ipureintro; exact hf5
    isplitl [H6]; · iexists _; isplitr; swap; (· iexact H6); ipureintro; exact hf6
    isplitl [H7]; · iexists _; isplitr; swap; (· iexact H7); ipureintro; exact hf7
    isplitl [H8]; · iexists _; isplitr; swap; (· iexact H8); ipureintro; exact hf8
    isplitl [H9]; · iexists _; isplitr; swap; (· iexact H9); ipureintro; exact hf9
    isplitl [H10]; · iexists _; isplitr; swap; (· iexact H10); ipureintro; exact hf10
    isplitl [H11]; · iexists _; isplitr; swap; (· iexact H11); ipureintro; exact hf11
    isplitl [H12]; · iexists _; isplitr; swap; (· iexact H12); ipureintro; exact hf12
    isplitl [H13]; · iexists _; isplitr; swap; (· iexact H13); ipureintro; exact hf13
    iexists _; isplitr; swap; (· iexact H14); ipureintro; exact hf14
  isplitl [O0]
  · iexists _; isplitr; swap; (· iexact O0)
    ipureintro
    refine (read_last _ _ zero3 _ _ _).trans ?_
    delta run_first.sl.r
    simp only [readAt_whole harg2 zero3, readAt_whole harg3 zero2, readAt_whole harg4 zero2, readAt_whole harg5 zero2, readAt_whole harg6 zero2, readAt_whole harg8 zero2, readAt_whole harg9 zero2, readAt_whole harg10 zero2, readAt_whole harg12 zero2, readAt_whole harg14 zero2, readAt_whole harg15 zero2, readAt_whole harg16 zero2, readAt_whole harg23 zero2, readAt_whole harg24 zero2, readAt_whole harg25 zero2, readAt_rect harg7, readAt_rect harg11, readAt_rect harg13, View.readCov_cons_toLoadRect]
    clear * -
    rfl
  isplitl [O1]
  · iexists _; isplitr; swap; (· iexact O1)
    ipureintro
    refine (read_last _ _ zero3 _ _ _).trans ?_
    delta run_first.sl.r run_first.sl.r_1 run_first.sl.r_2 run_first.sl.r_3 run_first.sl.r_4 run_first.sl.r_5 run_first.sl.r_6 run_first.sl.r_7 run_first.sl.r_8 run_first.sl.r_9 run_first.sl.r_10 run_first.sl.r_11 run_first.sl.r_12 run_first.sl.r_13 run_first.sl.r_14 run_first.sl.r_15 run_first.sl.r_16 run_first.sl.r_17 run_first.sl.r_18 run_first.sl.r_19 run_first.sl.r_20 run_first.sl.r_21 run_first.sl.r_22 run_first.sl.r_23 run_first.sl.r_24 run_first.sl.r_25 run_first.sl.r_26 run_first.sl.r_27 run_first.sl.r_28 run_first.sl.r_29 run_first.sl.r_30 run_first.sl.r_31 run_first.sl.r_32 run_first.sl.r_33 run_first.sl.r_34 run_first.sl.r_35 run_first.sl.r_36 run_first.sl.r_37 run_first.sl.r_38 run_first.sl.r_39 run_first.sl.r_40 run_first.sl.r_41 run_first.sl.r_42 run_first.sl.r_43 run_first.sl.r_44 run_first.sl.r_45 run_first.sl.r_46 run_first.sl.r_47 run_first.sl.r_48 run_first.sl.r_49 run_first.sl.r_50 run_first.sl.r_51 run_first.sl.r_52 run_first.sl.r_53 run_first.sl.r_54 run_first.sl.r_55 run_first.sl.r_56 run_first.sl.r_57 run_first.sl.r_58 run_first.sl.r_59 run_first.sl.r_60 run_first.sl.r_61 run_first.sl.r_62 run_first.sl.r_63 run_first.sl.r_64 run_first.sl.r_65 run_first.sl.r_66 run_first.sl.r_67 run_first.sl.r_68 run_first.sl.r_69 run_first.sl.r_70 run_first.sl.r_71 run_first.sl.r_72 run_first.sl.r_73 run_first.sl.r_74 run_first.sl.r_75 run_first.sl.r_76 run_first.sl.r_77 run_first.sl.r_78 run_first.sl.r_79 run_first.sl.r_80 run_first.sl.r_81 run_first.sl.r_82 run_first.sl.r_83 run_first.sl.r_84 run_first.sl.r_85 run_first.sl.r_86 run_first.sl.r_87 run_first.sl.r_88 run_first.sl.r_89
    try delta run_first.sl.v20
    try delta run_first.sl.v57
    try delta run_first.sl.v108
    try delta run_first.sl.v220
    try delta run_first.sl.v777
    try delta run_first.sl.S0_1
    try delta run_first.sl.S0_2
    try delta run_first.sl.S1_1
    try delta run_first.sl.S1_2
    try delta run_first.sl.S2_1
    try delta run_first.sl.S2_2
    try delta run_first.sl.S3_1
    simp only [readAt_whole harg2 zero3, readAt_whole harg3 zero2, readAt_whole harg4 zero2, readAt_whole harg5 zero2, readAt_whole harg6 zero2, readAt_whole harg8 zero2, readAt_whole harg9 zero2, readAt_whole harg10 zero2, readAt_whole harg12 zero2, readAt_whole harg14 zero2, readAt_whole harg15 zero2, readAt_whole harg16 zero2, readAt_whole harg23 zero2, readAt_whole harg24 zero2, readAt_whole harg25 zero2, readAt_rect harg7, readAt_rect harg11, readAt_rect harg13, View.readCov_cons_toLoadRect]
    clear * -
    rfl
  isplitl [O2]
  · iexists _; isplitr; swap; (· iexact O2)
    ipureintro
    refine (read_last _ _ zero3 _ _ _).trans ?_
    delta run_first.sl.r
    simp only [readAt_whole harg2 zero3, readAt_whole harg3 zero2, readAt_whole harg4 zero2, readAt_whole harg5 zero2, readAt_whole harg6 zero2, readAt_whole harg8 zero2, readAt_whole harg9 zero2, readAt_whole harg10 zero2, readAt_whole harg12 zero2, readAt_whole harg14 zero2, readAt_whole harg15 zero2, readAt_whole harg16 zero2, readAt_whole harg23 zero2, readAt_whole harg24 zero2, readAt_whole harg25 zero2, readAt_rect harg7, readAt_rect harg11, readAt_rect harg13, View.readCov_cons_toLoadRect]
    clear * -
    rfl
  isplitl [O3]
  · iexists _; isplitr; swap; (· iexact O3)
    ipureintro
    refine (read_last _ _ zero3 _ _ _).trans ?_
    delta run_first.sl.r run_first.sl.r_1 run_first.sl.r_2 run_first.sl.r_3 run_first.sl.r_4 run_first.sl.r_5 run_first.sl.r_6 run_first.sl.r_7 run_first.sl.r_8 run_first.sl.r_9 run_first.sl.r_10 run_first.sl.r_11 run_first.sl.r_12 run_first.sl.r_13 run_first.sl.r_14 run_first.sl.r_15 run_first.sl.r_16 run_first.sl.r_17 run_first.sl.r_18 run_first.sl.r_19 run_first.sl.r_20 run_first.sl.r_21 run_first.sl.r_22 run_first.sl.r_23 run_first.sl.r_24 run_first.sl.r_25 run_first.sl.r_26 run_first.sl.r_27 run_first.sl.r_28 run_first.sl.r_29 run_first.sl.r_30 run_first.sl.r_31 run_first.sl.r_32 run_first.sl.r_33 run_first.sl.r_34 run_first.sl.r_35 run_first.sl.r_36 run_first.sl.r_37 run_first.sl.r_38 run_first.sl.r_39 run_first.sl.r_40 run_first.sl.r_41 run_first.sl.r_42 run_first.sl.r_43 run_first.sl.r_44 run_first.sl.r_45 run_first.sl.r_46 run_first.sl.r_47 run_first.sl.r_48 run_first.sl.r_49 run_first.sl.r_50 run_first.sl.r_51 run_first.sl.r_52 run_first.sl.r_53 run_first.sl.r_54 run_first.sl.r_55 run_first.sl.r_56 run_first.sl.r_57 run_first.sl.r_58 run_first.sl.r_59 run_first.sl.r_60 run_first.sl.r_61 run_first.sl.r_62 run_first.sl.r_63 run_first.sl.r_64 run_first.sl.r_65 run_first.sl.r_66 run_first.sl.r_67 run_first.sl.r_68 run_first.sl.r_69 run_first.sl.r_70 run_first.sl.r_71 run_first.sl.r_72 run_first.sl.r_73 run_first.sl.r_74 run_first.sl.r_75 run_first.sl.r_76 run_first.sl.r_77 run_first.sl.r_78 run_first.sl.r_79 run_first.sl.r_80 run_first.sl.r_81 run_first.sl.r_82 run_first.sl.r_83 run_first.sl.r_84 run_first.sl.r_85 run_first.sl.r_86 run_first.sl.r_87 run_first.sl.r_88 run_first.sl.r_89
    try delta run_first.sl.v20
    try delta run_first.sl.v57
    try delta run_first.sl.v108
    try delta run_first.sl.v220
    try delta run_first.sl.v777
    try delta run_first.sl.S0_1
    try delta run_first.sl.S0_2
    try delta run_first.sl.S1_1
    try delta run_first.sl.S1_2
    try delta run_first.sl.S2_1
    try delta run_first.sl.S2_2
    try delta run_first.sl.S3_1
    simp only [readAt_whole harg2 zero3, readAt_whole harg3 zero2, readAt_whole harg4 zero2, readAt_whole harg5 zero2, readAt_whole harg6 zero2, readAt_whole harg8 zero2, readAt_whole harg9 zero2, readAt_whole harg10 zero2, readAt_whole harg12 zero2, readAt_whole harg14 zero2, readAt_whole harg15 zero2, readAt_whole harg16 zero2, readAt_whole harg23 zero2, readAt_whole harg24 zero2, readAt_whole harg25 zero2, readAt_rect harg7, readAt_rect harg11, readAt_rect harg13, View.readCov_cons_toLoadRect]
    clear * -
    rfl
  isplitl [O4]
  · iexists _; isplitr; swap; (· iexact O4)
    ipureintro
    refine (read_last _ _ zero3 _ _ _).trans ?_
    delta run_first.sl.r run_first.sl.r_1 run_first.sl.r_2 run_first.sl.r_3 run_first.sl.r_4 run_first.sl.r_5 run_first.sl.r_6 run_first.sl.r_7 run_first.sl.r_8 run_first.sl.r_9 run_first.sl.r_10 run_first.sl.r_11 run_first.sl.r_12 run_first.sl.r_13 run_first.sl.r_14 run_first.sl.r_15 run_first.sl.r_16 run_first.sl.r_17 run_first.sl.r_18 run_first.sl.r_19 run_first.sl.r_20 run_first.sl.r_21 run_first.sl.r_22 run_first.sl.r_23 run_first.sl.r_24 run_first.sl.r_25 run_first.sl.r_26 run_first.sl.r_27 run_first.sl.r_28 run_first.sl.r_29 run_first.sl.r_30 run_first.sl.r_31 run_first.sl.r_32 run_first.sl.r_33 run_first.sl.r_34 run_first.sl.r_35 run_first.sl.r_36 run_first.sl.r_37 run_first.sl.r_38 run_first.sl.r_39 run_first.sl.r_40 run_first.sl.r_41 run_first.sl.r_42 run_first.sl.r_43 run_first.sl.r_44 run_first.sl.r_45 run_first.sl.r_46 run_first.sl.r_47 run_first.sl.r_48 run_first.sl.r_49 run_first.sl.r_50 run_first.sl.r_51 run_first.sl.r_52 run_first.sl.r_53 run_first.sl.r_54 run_first.sl.r_55 run_first.sl.r_56 run_first.sl.r_57 run_first.sl.r_58 run_first.sl.r_59 run_first.sl.r_60 run_first.sl.r_61 run_first.sl.r_62 run_first.sl.r_63 run_first.sl.r_64 run_first.sl.r_65 run_first.sl.r_66 run_first.sl.r_67 run_first.sl.r_68 run_first.sl.r_69 run_first.sl.r_70 run_first.sl.r_71 run_first.sl.r_72 run_first.sl.r_73 run_first.sl.r_74 run_first.sl.r_75 run_first.sl.r_76 run_first.sl.r_77 run_first.sl.r_78 run_first.sl.r_79 run_first.sl.r_80 run_first.sl.r_81 run_first.sl.r_82 run_first.sl.r_83 run_first.sl.r_84 run_first.sl.r_85 run_first.sl.r_86 run_first.sl.r_87 run_first.sl.r_88 run_first.sl.r_89
    try delta run_first.sl.v20
    try delta run_first.sl.v57
    try delta run_first.sl.v108
    try delta run_first.sl.v220
    try delta run_first.sl.v777
    try delta run_first.sl.S0_1
    try delta run_first.sl.S0_2
    try delta run_first.sl.S1_1
    try delta run_first.sl.S1_2
    try delta run_first.sl.S2_1
    try delta run_first.sl.S2_2
    try delta run_first.sl.S3_1
    simp only [readAt_whole harg2 zero3, readAt_whole harg3 zero2, readAt_whole harg4 zero2, readAt_whole harg5 zero2, readAt_whole harg6 zero2, readAt_whole harg8 zero2, readAt_whole harg9 zero2, readAt_whole harg10 zero2, readAt_whole harg12 zero2, readAt_whole harg14 zero2, readAt_whole harg15 zero2, readAt_whole harg16 zero2, readAt_whole harg23 zero2, readAt_whole harg24 zero2, readAt_whole harg25 zero2, readAt_rect harg7, readAt_rect harg11, readAt_rect harg13, View.readCov_cons_toLoadRect]
    clear * -
    rfl
  isplitl [O5]
  · iexists _; isplitr; swap; (· iexact O5)
    ipureintro
    refine (read_last _ _ zero4 _ _ _).trans ?_
    delta run_first.sl.r run_first.sl.r_1 run_first.sl.r_2 run_first.sl.r_3 run_first.sl.r_4 run_first.sl.r_5 run_first.sl.r_6 run_first.sl.r_7 run_first.sl.r_8 run_first.sl.r_9 run_first.sl.r_10 run_first.sl.r_11 run_first.sl.r_12 run_first.sl.r_13 run_first.sl.r_14 run_first.sl.r_15 run_first.sl.r_16 run_first.sl.r_17 run_first.sl.r_18 run_first.sl.r_19 run_first.sl.r_20 run_first.sl.r_21 run_first.sl.r_22 run_first.sl.r_23 run_first.sl.r_24 run_first.sl.r_25 run_first.sl.r_26 run_first.sl.r_27 run_first.sl.r_28 run_first.sl.r_29 run_first.sl.r_30 run_first.sl.r_31 run_first.sl.r_32 run_first.sl.r_33 run_first.sl.r_34 run_first.sl.r_35 run_first.sl.r_36 run_first.sl.r_37 run_first.sl.r_38 run_first.sl.r_39 run_first.sl.r_40 run_first.sl.r_41 run_first.sl.r_42 run_first.sl.r_43 run_first.sl.r_44 run_first.sl.r_45 run_first.sl.r_46 run_first.sl.r_47 run_first.sl.r_48 run_first.sl.r_49 run_first.sl.r_50 run_first.sl.r_51 run_first.sl.r_52 run_first.sl.r_53 run_first.sl.r_54 run_first.sl.r_55 run_first.sl.r_56 run_first.sl.r_57 run_first.sl.r_58 run_first.sl.r_59 run_first.sl.r_60 run_first.sl.r_61 run_first.sl.r_62 run_first.sl.r_63 run_first.sl.r_64 run_first.sl.r_65 run_first.sl.r_66 run_first.sl.r_67 run_first.sl.r_68 run_first.sl.r_69 run_first.sl.r_70 run_first.sl.r_71 run_first.sl.r_72 run_first.sl.r_73 run_first.sl.r_74 run_first.sl.r_75 run_first.sl.r_76 run_first.sl.r_77 run_first.sl.r_78 run_first.sl.r_79 run_first.sl.r_80 run_first.sl.r_81 run_first.sl.r_82 run_first.sl.r_83 run_first.sl.r_84 run_first.sl.r_85 run_first.sl.r_86 run_first.sl.r_87 run_first.sl.r_88 run_first.sl.r_89
    try delta run_first.sl.v20
    try delta run_first.sl.v57
    try delta run_first.sl.v108
    try delta run_first.sl.v220
    try delta run_first.sl.v777
    try delta run_first.sl.S0_1
    try delta run_first.sl.S0_2
    try delta run_first.sl.S1_1
    try delta run_first.sl.S1_2
    try delta run_first.sl.S2_1
    try delta run_first.sl.S2_2
    try delta run_first.sl.S3_1
    simp only [readAt_whole harg2 zero3, readAt_whole harg3 zero2, readAt_whole harg4 zero2, readAt_whole harg5 zero2, readAt_whole harg6 zero2, readAt_whole harg8 zero2, readAt_whole harg9 zero2, readAt_whole harg10 zero2, readAt_whole harg12 zero2, readAt_whole harg14 zero2, readAt_whole harg15 zero2, readAt_whole harg16 zero2, readAt_whole harg23 zero2, readAt_whole harg24 zero2, readAt_whole harg25 zero2, readAt_rect harg7, readAt_rect harg11, readAt_rect harg13, View.readCov_cons_toLoadRect]
    clear * -
    rfl
  isplitl [S0]
  · iexists _; isplitr; swap; (· iexact S0)
    ipureintro
    refine (read_last _ _ zero2 _ _ _).trans ?_
    delta run_first.sl.r run_first.sl.r_1 run_first.sl.r_2 run_first.sl.r_3 run_first.sl.r_4 run_first.sl.r_5 run_first.sl.r_6 run_first.sl.r_7 run_first.sl.r_8 run_first.sl.r_9 run_first.sl.r_10 run_first.sl.r_11 run_first.sl.r_12 run_first.sl.r_13 run_first.sl.r_14 run_first.sl.r_15 run_first.sl.r_16 run_first.sl.r_17 run_first.sl.r_18 run_first.sl.r_19 run_first.sl.r_20 run_first.sl.r_21 run_first.sl.r_22 run_first.sl.r_23 run_first.sl.r_24 run_first.sl.r_25 run_first.sl.r_26 run_first.sl.r_27 run_first.sl.r_28 run_first.sl.r_29 run_first.sl.r_30 run_first.sl.r_31 run_first.sl.r_32 run_first.sl.r_33 run_first.sl.r_34 run_first.sl.r_35 run_first.sl.r_36 run_first.sl.r_37 run_first.sl.r_38 run_first.sl.r_39 run_first.sl.r_40 run_first.sl.r_41 run_first.sl.r_42 run_first.sl.r_43 run_first.sl.r_44 run_first.sl.r_45 run_first.sl.r_46 run_first.sl.r_47 run_first.sl.r_48 run_first.sl.r_49 run_first.sl.r_50 run_first.sl.r_51 run_first.sl.r_52 run_first.sl.r_53 run_first.sl.r_54 run_first.sl.r_55 run_first.sl.r_56 run_first.sl.r_57 run_first.sl.r_58 run_first.sl.r_59 run_first.sl.r_60 run_first.sl.r_61 run_first.sl.r_62 run_first.sl.r_63 run_first.sl.r_64 run_first.sl.r_65 run_first.sl.r_66 run_first.sl.r_67 run_first.sl.r_68 run_first.sl.r_69 run_first.sl.r_70 run_first.sl.r_71 run_first.sl.r_72 run_first.sl.r_73 run_first.sl.r_74 run_first.sl.r_75 run_first.sl.r_76 run_first.sl.r_77 run_first.sl.r_78 run_first.sl.r_79 run_first.sl.r_80 run_first.sl.r_81 run_first.sl.r_82 run_first.sl.r_83 run_first.sl.r_84 run_first.sl.r_85 run_first.sl.r_86 run_first.sl.r_87 run_first.sl.r_88 run_first.sl.r_89
    try delta run_first.sl.v20
    try delta run_first.sl.v57
    try delta run_first.sl.v108
    try delta run_first.sl.v220
    try delta run_first.sl.v777
    try delta run_first.sl.S0_1
    try delta run_first.sl.S0_2
    try delta run_first.sl.S1_1
    try delta run_first.sl.S1_2
    try delta run_first.sl.S2_1
    try delta run_first.sl.S2_2
    try delta run_first.sl.S3_1
    simp only [readAt_whole harg2 zero3, readAt_whole harg3 zero2, readAt_whole harg4 zero2, readAt_whole harg5 zero2, readAt_whole harg6 zero2, readAt_whole harg8 zero2, readAt_whole harg9 zero2, readAt_whole harg10 zero2, readAt_whole harg12 zero2, readAt_whole harg14 zero2, readAt_whole harg15 zero2, readAt_whole harg16 zero2, readAt_whole harg23 zero2, readAt_whole harg24 zero2, readAt_whole harg25 zero2, readAt_rect harg7, readAt_rect harg11, readAt_rect harg13, View.readCov_cons_toLoadRect]
    clear * -
    rfl
  isplitl [S1]
  · iexists _; isplitr; swap; (· iexact S1)
    ipureintro
    refine (read_last _ _ zero2 _ _ _).trans ?_
    delta run_first.sl.r run_first.sl.r_1 run_first.sl.r_2 run_first.sl.r_3 run_first.sl.r_4 run_first.sl.r_5 run_first.sl.r_6 run_first.sl.r_7 run_first.sl.r_8 run_first.sl.r_9 run_first.sl.r_10 run_first.sl.r_11 run_first.sl.r_12 run_first.sl.r_13 run_first.sl.r_14 run_first.sl.r_15 run_first.sl.r_16 run_first.sl.r_17 run_first.sl.r_18 run_first.sl.r_19 run_first.sl.r_20 run_first.sl.r_21 run_first.sl.r_22 run_first.sl.r_23 run_first.sl.r_24 run_first.sl.r_25 run_first.sl.r_26 run_first.sl.r_27 run_first.sl.r_28 run_first.sl.r_29 run_first.sl.r_30 run_first.sl.r_31 run_first.sl.r_32 run_first.sl.r_33 run_first.sl.r_34 run_first.sl.r_35 run_first.sl.r_36 run_first.sl.r_37 run_first.sl.r_38 run_first.sl.r_39 run_first.sl.r_40 run_first.sl.r_41 run_first.sl.r_42 run_first.sl.r_43 run_first.sl.r_44 run_first.sl.r_45 run_first.sl.r_46 run_first.sl.r_47 run_first.sl.r_48 run_first.sl.r_49 run_first.sl.r_50 run_first.sl.r_51 run_first.sl.r_52 run_first.sl.r_53 run_first.sl.r_54 run_first.sl.r_55 run_first.sl.r_56 run_first.sl.r_57 run_first.sl.r_58 run_first.sl.r_59 run_first.sl.r_60 run_first.sl.r_61 run_first.sl.r_62 run_first.sl.r_63 run_first.sl.r_64 run_first.sl.r_65 run_first.sl.r_66 run_first.sl.r_67 run_first.sl.r_68 run_first.sl.r_69 run_first.sl.r_70 run_first.sl.r_71 run_first.sl.r_72 run_first.sl.r_73 run_first.sl.r_74 run_first.sl.r_75 run_first.sl.r_76 run_first.sl.r_77 run_first.sl.r_78 run_first.sl.r_79 run_first.sl.r_80 run_first.sl.r_81 run_first.sl.r_82 run_first.sl.r_83 run_first.sl.r_84 run_first.sl.r_85 run_first.sl.r_86 run_first.sl.r_87 run_first.sl.r_88 run_first.sl.r_89
    simp only [readAt_whole harg2 zero3, readAt_whole harg3 zero2, readAt_whole harg4 zero2, readAt_whole harg5 zero2, readAt_whole harg6 zero2, readAt_whole harg8 zero2, readAt_whole harg9 zero2, readAt_whole harg10 zero2, readAt_whole harg12 zero2, readAt_whole harg14 zero2, readAt_whole harg15 zero2, readAt_whole harg16 zero2, readAt_whole harg23 zero2, readAt_whole harg24 zero2, readAt_whole harg25 zero2, readAt_rect harg7, readAt_rect harg11, readAt_rect harg13, View.readCov_cons_toLoadRect]
    clear * -
    rfl
  iexists _; isplitr; swap; (· iexact S2)
  ipureintro
  refine (read_last _ _ zero2 _ _ _).trans ?_
  delta run_first.sl.r run_first.sl.r_1 run_first.sl.r_2 run_first.sl.r_3 run_first.sl.r_4 run_first.sl.r_5 run_first.sl.r_6 run_first.sl.r_7 run_first.sl.r_8 run_first.sl.r_9 run_first.sl.r_10 run_first.sl.r_11 run_first.sl.r_12 run_first.sl.r_13 run_first.sl.r_14 run_first.sl.r_15 run_first.sl.r_16 run_first.sl.r_17 run_first.sl.r_18 run_first.sl.r_19 run_first.sl.r_20 run_first.sl.r_21 run_first.sl.r_22 run_first.sl.r_23 run_first.sl.r_24 run_first.sl.r_25 run_first.sl.r_26 run_first.sl.r_27 run_first.sl.r_28 run_first.sl.r_29 run_first.sl.r_30 run_first.sl.r_31 run_first.sl.r_32 run_first.sl.r_33 run_first.sl.r_34 run_first.sl.r_35 run_first.sl.r_36 run_first.sl.r_37 run_first.sl.r_38 run_first.sl.r_39 run_first.sl.r_40 run_first.sl.r_41 run_first.sl.r_42 run_first.sl.r_43 run_first.sl.r_44 run_first.sl.r_45 run_first.sl.r_46 run_first.sl.r_47 run_first.sl.r_48 run_first.sl.r_49 run_first.sl.r_50 run_first.sl.r_51 run_first.sl.r_52 run_first.sl.r_53 run_first.sl.r_54 run_first.sl.r_55 run_first.sl.r_56 run_first.sl.r_57 run_first.sl.r_58 run_first.sl.r_59 run_first.sl.r_60 run_first.sl.r_61 run_first.sl.r_62 run_first.sl.r_63 run_first.sl.r_64 run_first.sl.r_65 run_first.sl.r_66 run_first.sl.r_67 run_first.sl.r_68 run_first.sl.r_69 run_first.sl.r_70 run_first.sl.r_71 run_first.sl.r_72 run_first.sl.r_73 run_first.sl.r_74 run_first.sl.r_75 run_first.sl.r_76 run_first.sl.r_77 run_first.sl.r_78 run_first.sl.r_79 run_first.sl.r_80 run_first.sl.r_81 run_first.sl.r_82 run_first.sl.r_83 run_first.sl.r_84 run_first.sl.r_85
  try delta run_first.sl.v20
  try delta run_first.sl.v57
  try delta run_first.sl.v108
  try delta run_first.sl.v220
  try delta run_first.sl.v777
  try delta run_first.sl.S0_1
  try delta run_first.sl.S0_2
  try delta run_first.sl.S1_1
  try delta run_first.sl.S1_2
  try delta run_first.sl.S2_1
  try delta run_first.sl.S2_2
  try delta run_first.sl.S3_1
  simp only [readAt_whole harg2 zero3, readAt_whole harg3 zero2, readAt_whole harg4 zero2, readAt_whole harg5 zero2, readAt_whole harg6 zero2, readAt_whole harg8 zero2, readAt_whole harg9 zero2, readAt_whole harg10 zero2, readAt_whole harg12 zero2, readAt_whole harg14 zero2, readAt_whole harg15 zero2, readAt_whole harg16 zero2, readAt_whole harg23 zero2, readAt_whole harg24 zero2, readAt_whole harg25 zero2, readAt_rect harg7, readAt_rect harg11, readAt_rect harg13, View.readCov_cons_toLoadRect]
  clear * -
  rfl

end Cert.Kernel2Ideal.Mix

end
-- ==== Proof.Kernel2Ideal.Next.lean ====
/- The body of the input projection's kernel at a point that continues a sequence. -/
module

public import proofs.«01_k».proof.Proof.Kernel2Ideal.Body

@[expose] public section

set_option maxRecDepth 65536

noncomputable section

namespace Cert.Kernel2Ideal.Mix

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1x512x2048 .f32) (harg2 : arg2.IsWhole)
  (arg3 : Memref sig .tc .vmem S1x2048 .f32) (harg3 : arg3.IsWhole)
  (arg4 : Memref sig .tc .vmem S1024x2048 .bf16) (harg4 : arg4.IsWhole)
  (arg5 : Memref sig .tc .vmem S1024x2048 .bf16) (harg5 : arg5.IsWhole)
  (arg6 : Memref sig .tc .vmem S2048x1024 .bf16) (harg6 : arg6.IsWhole)
  (arg7 : Memref sig .tc .vmem S2048x2048 .bf16) (harg7 : arg7.IsWhole)
  (arg8 : Memref sig .tc .vmem S2048x128 .bf16) (harg8 : arg8.IsWhole)
  (arg9 : Memref sig .tc .vmem S1x128 .f32) (harg9 : arg9.IsWhole)
  (arg10 : Memref sig .tc .vmem S1024x128 .bf16) (harg10 : arg10.IsWhole)
  (arg11 : Memref sig .tc .vmem S4x1024 .f32) (harg11 : arg11.IsWhole)
  (arg12 : Memref sig .tc .vmem S1x1024 .f32) (harg12 : arg12.IsWhole)
  (arg13 : Memref sig .tc .vmem S4x256x512 .bf16) (harg13 : arg13.IsWhole)
  (arg14 : Memref sig .tc .vmem S1x1024 .f32) (harg14 : arg14.IsWhole)
  (arg15 : Memref sig .tc .vmem S1x1024 .f32) (harg15 : arg15.IsWhole)
  (arg16 : Memref sig .tc .vmem S1x1024 .f32) (harg16 : arg16.IsWhole)
  (arg17 : Memref sig .tc .vmem S1x1024x512 .bf16) (harg17 : arg17.IsWhole)
  (arg18 : Memref sig .tc .vmem S1x512x1024 .bf16) (harg18 : arg18.IsWhole)
  (arg19 : Memref sig .tc .vmem S1x1024x512 .bf16) (harg19 : arg19.IsWhole)
  (arg20 : Memref sig .tc .vmem S1x512x128 .bf16) (harg20 : arg20.IsWhole)
  (arg21 : Memref sig .tc .vmem S1x512x1024 .bf16) (harg21 : arg21.IsWhole)
  (arg22 : Memref sig .tc .vmem S1x1x8x128 .f32) (harg22 : arg22.IsWhole)
  (arg23 : Memref sig .tc .vmem S1x128 .f32) (harg23 : arg23.IsWhole)
  (arg24 : Memref sig .tc .vmem S8x1024 .f32) (harg24 : arg24.IsWhole)
  (arg25 : Memref sig .tc .vmem S1x1024 .f32) (harg25 : arg25.IsWhole)
  (X : Blocks F)

set_option maxHeartbeats 8000000 in
/-- The body at every other point. -/
theorem run_next (hc : ¬ first i) (s0 : Vec F S1x128 .f32) (s1 : Vec F S8x1024 .f32) (s2 : Vec F S1x1024 .f32) (E : Set ℕ) (K : PUnit → sProp 𝕄) :
    iprop(ins c arg2 arg3 arg4 arg5 arg6 arg7 arg8 arg9 arg10 arg11 arg12 arg13 arg14 arg15 arg16 X
        ∗ (∃ d, owns (c : Thread nD τ) arg17 fullShare d)
        ∗ (∃ d, owns (c : Thread nD τ) arg18 fullShare d)
        ∗ (∃ d, owns (c : Thread nD τ) arg19 fullShare d)
        ∗ (∃ d, owns (c : Thread nD τ) arg20 fullShare d)
        ∗ (∃ d, owns (c : Thread nD τ) arg21 fullShare d)
        ∗ (∃ d, owns (c : Thread nD τ) arg22 fullShare d)
        ∗ owns (c : Thread nD τ) arg23 fullShare s0
        ∗ owns (c : Thread nD τ) arg24 fullShare s1
        ∗ owns (c : Thread nD τ) arg25 fullShare s2
        ∗ (iprop(ins c arg2 arg3 arg4 arg5 arg6 arg7 arg8 arg9 arg10 arg11 arg12 arg13 arg14 arg15 arg16 X
            ∗ owns (c : Thread nD τ) arg17 fullShare (out0 X)
            ∗ owns (c : Thread nD τ) arg18 fullShare (out1 X)
            ∗ owns (c : Thread nD τ) arg19 fullShare (out2 X)
            ∗ owns (c : Thread nD τ) arg20 fullShare (out3 X s0)
            ∗ owns (c : Thread nD τ) arg21 fullShare (out4 X (start i) s1 s2)
            ∗ owns (c : Thread nD τ) arg22 fullShare (out5 X s0)
            ∗ owns (c : Thread nD τ) arg23 fullShare (next0 X s0)
            ∗ owns (c : Thread nD τ) arg24 fullShare (next1 X)
            ∗ owns (c : Thread nD τ) arg25 fullShare (next2 X (start i) s1 s2)) -∗ K ⟨⟩))
      ⊢ wp frame (wpE (defs₀ (F := F)) Variants.none c none) E
          (cc0_in_projection i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_in_projection_eq_skeleton]; unfold cc0_in_projection_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, ⟨%d0, %g0, -, O0⟩, ⟨%d1, %g1, -, O1⟩, ⟨%d2, %g2, -, O2⟩, ⟨%d3, %g3, -, O3⟩, ⟨%d4, %g4, -, O4⟩, ⟨%d5, %g5, -, O5⟩, ⟨%e0, %he0, S0⟩, ⟨%e1, %he1, S1⟩, ⟨%e2, %he2, S2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
  obtain rfl := harg23.eq_unread he0; obtain rfl := harg24.eq_unread he1; obtain rfl := harg25.eq_unread he2
  sl_exec (disch := first | sl_exact hc)
  sl_step
  iapply Hk
  isplitl [H0 H1 H2 H3 H4 H5 H6 H7 H8 H9 H10 H11 H12 H13 H14]
  · isplitl [H0]; · iexists _; isplitr; swap; (· iexact H0); ipureintro; exact hf0
    isplitl [H1]; · iexists _; isplitr; swap; (· iexact H1); ipureintro; exact hf1
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    isplitl [H5]; · iexists _; isplitr; swap; (· iexact H5); ipureintro; exact hf5
    isplitl [H6]; · iexists _; isplitr; swap; (· iexact H6); ipureintro; exact hf6
    isplitl [H7]; · iexists _; isplitr; swap; (· iexact H7); ipureintro; exact hf7
    isplitl [H8]; · iexists _; isplitr; swap; (· iexact H8); ipureintro; exact hf8
    isplitl [H9]; · iexists _; isplitr; swap; (· iexact H9); ipureintro; exact hf9
    isplitl [H10]; · iexists _; isplitr; swap; (· iexact H10); ipureintro; exact hf10
    isplitl [H11]; · iexists _; isplitr; swap; (· iexact H11); ipureintro; exact hf11
    isplitl [H12]; · iexists _; isplitr; swap; (· iexact H12); ipureintro; exact hf12
    isplitl [H13]; · iexists _; isplitr; swap; (· iexact H13); ipureintro; exact hf13
    iexists _; isplitr; swap; (· iexact H14); ipureintro; exact hf14
  isplitl [O0]
  · iexists _; isplitr; swap; (· iexact O0)
    ipureintro
    refine (read_last _ _ zero3 _ _ _).trans ?_
    delta run_next.sl.r
    simp only [readAt_whole harg2 zero3, readAt_whole harg3 zero2, readAt_whole harg4 zero2, readAt_whole harg5 zero2, readAt_whole harg6 zero2, readAt_whole harg8 zero2, readAt_whole harg9 zero2, readAt_whole harg10 zero2, readAt_whole harg12 zero2, readAt_whole harg14 zero2, readAt_whole harg15 zero2, readAt_whole harg16 zero2, readAt_whole harg23 zero2, readAt_whole harg24 zero2, readAt_whole harg25 zero2, readAt_rect harg7, readAt_rect harg11, readAt_rect harg13]
    clear * -
    rfl
  isplitl [O1]
  · iexists _; isplitr; swap; (· iexact O1)
    ipureintro
    refine (read_last _ _ zero3 _ _ _).trans ?_
    delta run_next.sl.r run_next.sl.r_1 run_next.sl.r_2 run_next.sl.r_3 run_next.sl.r_4 run_next.sl.r_5 run_next.sl.r_6 run_next.sl.r_7 run_next.sl.r_8 run_next.sl.r_9 run_next.sl.r_10 run_next.sl.r_11 run_next.sl.r_12 run_next.sl.r_13 run_next.sl.r_14 run_next.sl.r_15 run_next.sl.r_16 run_next.sl.r_17 run_next.sl.r_18 run_next.sl.r_19 run_next.sl.r_20 run_next.sl.r_21 run_next.sl.r_22 run_next.sl.r_23 run_next.sl.r_24 run_next.sl.r_25 run_next.sl.r_26 run_next.sl.r_27 run_next.sl.r_28 run_next.sl.r_29 run_next.sl.r_30 run_next.sl.r_31 run_next.sl.r_32 run_next.sl.r_33 run_next.sl.r_34 run_next.sl.r_35 run_next.sl.r_36 run_next.sl.r_37 run_next.sl.r_38 run_next.sl.r_39 run_next.sl.r_40 run_next.sl.r_41 run_next.sl.r_42 run_next.sl.r_43 run_next.sl.r_44 run_next.sl.r_45 run_next.sl.r_46 run_next.sl.r_47 run_next.sl.r_48 run_next.sl.r_49 run_next.sl.r_50 run_next.sl.r_51 run_next.sl.r_52 run_next.sl.r_53 run_next.sl.r_54 run_next.sl.r_55 run_next.sl.r_56 run_next.sl.r_57 run_next.sl.r_58 run_next.sl.r_59 run_next.sl.r_60 run_next.sl.r_61 run_next.sl.r_62 run_next.sl.r_63 run_next.sl.r_64 run_next.sl.r_65 run_next.sl.r_66 run_next.sl.r_67 run_next.sl.r_68 run_next.sl.r_69 run_next.sl.r_70 run_next.sl.r_71 run_next.sl.r_72 run_next.sl.r_73 run_next.sl.r_74 run_next.sl.r_75 run_next.sl.r_76 run_next.sl.r_77 run_next.sl.r_78 run_next.sl.r_79 run_next.sl.r_80 run_next.sl.r_81 run_next.sl.r_82 run_next.sl.r_83 run_next.sl.r_84 run_next.sl.r_85 run_next.sl.r_86 run_next.sl.r_87 run_next.sl.r_88 run_next.sl.r_89 run_next.sl.r_90
    simp only [readAt_whole harg2 zero3, readAt_whole harg3 zero2, readAt_whole harg4 zero2, readAt_whole harg5 zero2, readAt_whole harg6 zero2, readAt_whole harg8 zero2, readAt_whole harg9 zero2, readAt_whole harg10 zero2, readAt_whole harg12 zero2, readAt_whole harg14 zero2, readAt_whole harg15 zero2, readAt_whole harg16 zero2, readAt_whole harg23 zero2, readAt_whole harg24 zero2, readAt_whole harg25 zero2, readAt_rect harg7, readAt_rect harg11, readAt_rect harg13]
    clear * -
    rfl
  isplitl [O2]
  · iexists _; isplitr; swap; (· iexact O2)
    ipureintro
    refine (read_last _ _ zero3 _ _ _).trans ?_
    delta run_next.sl.r
    simp only [readAt_whole harg2 zero3, readAt_whole harg3 zero2, readAt_whole harg4 zero2, readAt_whole harg5 zero2, readAt_whole harg6 zero2, readAt_whole harg8 zero2, readAt_whole harg9 zero2, readAt_whole harg10 zero2, readAt_whole harg12 zero2, readAt_whole harg14 zero2, readAt_whole harg15 zero2, readAt_whole harg16 zero2, readAt_whole harg23 zero2, readAt_whole harg24 zero2, readAt_whole harg25 zero2, readAt_rect harg7, readAt_rect harg11, readAt_rect harg13]
    clear * -
    rfl
  isplitl [O3]
  · iexists _; isplitr; swap; (· iexact O3)
    ipureintro
    refine (read_last _ _ zero3 _ _ _).trans ?_
    delta run_next.sl.r run_next.sl.r_1 run_next.sl.r_2 run_next.sl.r_3 run_next.sl.r_4 run_next.sl.r_5 run_next.sl.r_6 run_next.sl.r_7 run_next.sl.r_8 run_next.sl.r_9 run_next.sl.r_10 run_next.sl.r_11 run_next.sl.r_12 run_next.sl.r_13 run_next.sl.r_14 run_next.sl.r_15 run_next.sl.r_16 run_next.sl.r_17 run_next.sl.r_18 run_next.sl.r_19 run_next.sl.r_20 run_next.sl.r_21 run_next.sl.r_22 run_next.sl.r_23 run_next.sl.r_24 run_next.sl.r_25 run_next.sl.r_26 run_next.sl.r_27 run_next.sl.r_28 run_next.sl.r_29 run_next.sl.r_30 run_next.sl.r_31 run_next.sl.r_32 run_next.sl.r_33 run_next.sl.r_34 run_next.sl.r_35 run_next.sl.r_36 run_next.sl.r_37 run_next.sl.r_38 run_next.sl.r_39 run_next.sl.r_40 run_next.sl.r_41 run_next.sl.r_42 run_next.sl.r_43 run_next.sl.r_44 run_next.sl.r_45 run_next.sl.r_46 run_next.sl.r_47 run_next.sl.r_48 run_next.sl.r_49 run_next.sl.r_50 run_next.sl.r_51 run_next.sl.r_52 run_next.sl.r_53 run_next.sl.r_54 run_next.sl.r_55 run_next.sl.r_56 run_next.sl.r_57 run_next.sl.r_58 run_next.sl.r_59 run_next.sl.r_60 run_next.sl.r_61 run_next.sl.r_62 run_next.sl.r_63 run_next.sl.r_64 run_next.sl.r_65 run_next.sl.r_66 run_next.sl.r_67 run_next.sl.r_68 run_next.sl.r_69 run_next.sl.r_70 run_next.sl.r_71 run_next.sl.r_72 run_next.sl.r_73 run_next.sl.r_74 run_next.sl.r_75 run_next.sl.r_76 run_next.sl.r_77 run_next.sl.r_78 run_next.sl.r_79 run_next.sl.r_80 run_next.sl.r_81 run_next.sl.r_82 run_next.sl.r_83 run_next.sl.r_84 run_next.sl.r_85 run_next.sl.r_86 run_next.sl.r_87 run_next.sl.r_88 run_next.sl.v20
    simp only [readAt_whole harg2 zero3, readAt_whole harg3 zero2, readAt_whole harg4 zero2, readAt_whole harg5 zero2, readAt_whole harg6 zero2, readAt_whole harg8 zero2, readAt_whole harg9 zero2, readAt_whole harg10 zero2, readAt_whole harg12 zero2, readAt_whole harg14 zero2, readAt_whole harg15 zero2, readAt_whole harg16 zero2, readAt_whole harg23 zero2, readAt_whole harg24 zero2, readAt_whole harg25 zero2, readAt_rect harg7, readAt_rect harg11, readAt_rect harg13]
    clear * -
    rfl
  isplitl [O4]
  · iexists _; isplitr; swap; (· iexact O4)
    ipureintro
    refine (read_last _ _ zero3 _ _ _).trans ?_
    delta run_next.sl.r run_next.sl.r_1 run_next.sl.r_2 run_next.sl.r_3 run_next.sl.r_4 run_next.sl.r_5 run_next.sl.r_6 run_next.sl.r_7 run_next.sl.r_8 run_next.sl.r_9 run_next.sl.r_10 run_next.sl.r_11 run_next.sl.r_12 run_next.sl.r_13 run_next.sl.r_14 run_next.sl.r_15 run_next.sl.r_16 run_next.sl.r_17 run_next.sl.r_18 run_next.sl.r_19 run_next.sl.r_20 run_next.sl.r_21 run_next.sl.r_22 run_next.sl.r_23 run_next.sl.r_24 run_next.sl.r_25 run_next.sl.r_26 run_next.sl.r_27 run_next.sl.r_28 run_next.sl.r_29 run_next.sl.r_30 run_next.sl.r_31 run_next.sl.r_32 run_next.sl.r_33 run_next.sl.r_34 run_next.sl.r_35 run_next.sl.r_36 run_next.sl.r_37 run_next.sl.r_38 run_next.sl.r_39 run_next.sl.r_40 run_next.sl.r_41 run_next.sl.r_42 run_next.sl.r_43 run_next.sl.r_44 run_next.sl.r_45 run_next.sl.r_46 run_next.sl.r_47 run_next.sl.r_48 run_next.sl.r_49 run_next.sl.r_50 run_next.sl.r_51 run_next.sl.r_52 run_next.sl.r_53 run_next.sl.r_54 run_next.sl.r_55 run_next.sl.r_56 run_next.sl.r_57 run_next.sl.r_58 run_next.sl.r_59 run_next.sl.r_60 run_next.sl.r_61 run_next.sl.r_62 run_next.sl.r_63 run_next.sl.r_64 run_next.sl.r_65 run_next.sl.r_66 run_next.sl.r_67 run_next.sl.r_68 run_next.sl.r_69 run_next.sl.r_70 run_next.sl.r_71 run_next.sl.r_72 run_next.sl.r_73 run_next.sl.r_74 run_next.sl.r_75 run_next.sl.r_76 run_next.sl.r_77 run_next.sl.r_78 run_next.sl.r_79 run_next.sl.r_80 run_next.sl.r_81 run_next.sl.r_82 run_next.sl.r_83 run_next.sl.r_84 run_next.sl.r_85 run_next.sl.r_86 run_next.sl.r_87
    simp only [readAt_whole harg2 zero3, readAt_whole harg3 zero2, readAt_whole harg4 zero2, readAt_whole harg5 zero2, readAt_whole harg6 zero2, readAt_whole harg8 zero2, readAt_whole harg9 zero2, readAt_whole harg10 zero2, readAt_whole harg12 zero2, readAt_whole harg14 zero2, readAt_whole harg15 zero2, readAt_whole harg16 zero2, readAt_whole harg23 zero2, readAt_whole harg24 zero2, readAt_whole harg25 zero2, readAt_rect harg7, readAt_rect harg11, readAt_rect harg13]
    clear * -
    rfl
  isplitl [O5]
  · iexists _; isplitr; swap; (· iexact O5)
    ipureintro
    refine (read_last _ _ zero4 _ _ _).trans ?_
    delta run_next.sl.r run_next.sl.r_1 run_next.sl.r_2 run_next.sl.r_3 run_next.sl.r_4 run_next.sl.r_5 run_next.sl.r_6 run_next.sl.r_7 run_next.sl.r_8 run_next.sl.r_9 run_next.sl.r_10 run_next.sl.r_11 run_next.sl.r_12 run_next.sl.r_13 run_next.sl.r_14 run_next.sl.r_15 run_next.sl.r_16 run_next.sl.r_17 run_next.sl.r_18 run_next.sl.r_19 run_next.sl.r_20 run_next.sl.r_21 run_next.sl.r_22 run_next.sl.r_23 run_next.sl.r_24 run_next.sl.r_25 run_next.sl.r_26 run_next.sl.r_27 run_next.sl.r_28 run_next.sl.r_29 run_next.sl.r_30 run_next.sl.r_31 run_next.sl.r_32 run_next.sl.r_33 run_next.sl.r_34 run_next.sl.r_35 run_next.sl.r_36 run_next.sl.r_37 run_next.sl.r_38 run_next.sl.r_39 run_next.sl.r_40 run_next.sl.r_41 run_next.sl.r_42 run_next.sl.r_43 run_next.sl.r_44 run_next.sl.r_45 run_next.sl.r_46 run_next.sl.r_47 run_next.sl.r_48 run_next.sl.r_49 run_next.sl.r_50 run_next.sl.r_51 run_next.sl.r_52 run_next.sl.r_53 run_next.sl.r_54 run_next.sl.r_55 run_next.sl.r_56 run_next.sl.r_57 run_next.sl.r_58 run_next.sl.r_59 run_next.sl.r_60 run_next.sl.r_61 run_next.sl.r_62 run_next.sl.r_63 run_next.sl.r_64 run_next.sl.r_65 run_next.sl.r_66 run_next.sl.r_67 run_next.sl.r_68 run_next.sl.r_69 run_next.sl.r_70 run_next.sl.r_71 run_next.sl.r_72 run_next.sl.r_73 run_next.sl.r_74 run_next.sl.r_75 run_next.sl.r_76 run_next.sl.r_77 run_next.sl.r_78 run_next.sl.r_79 run_next.sl.r_80 run_next.sl.r_81 run_next.sl.r_82 run_next.sl.r_83 run_next.sl.r_84 run_next.sl.r_85 run_next.sl.r_86 run_next.sl.r_87 run_next.sl.r_88 run_next.sl.r_89 run_next.sl.r_90
    simp only [readAt_whole harg2 zero3, readAt_whole harg3 zero2, readAt_whole harg4 zero2, readAt_whole harg5 zero2, readAt_whole harg6 zero2, readAt_whole harg8 zero2, readAt_whole harg9 zero2, readAt_whole harg10 zero2, readAt_whole harg12 zero2, readAt_whole harg14 zero2, readAt_whole harg15 zero2, readAt_whole harg16 zero2, readAt_whole harg23 zero2, readAt_whole harg24 zero2, readAt_whole harg25 zero2, readAt_rect harg7, readAt_rect harg11, readAt_rect harg13]
    clear * -
    rfl
  isplitl [S0]
  · iexists _; isplitr; swap; (· iexact S0)
    ipureintro
    refine (read_last _ _ zero2 _ _ _).trans ?_
    delta run_next.sl.r run_next.sl.r_1 run_next.sl.r_2 run_next.sl.r_3 run_next.sl.r_4 run_next.sl.r_5 run_next.sl.r_6 run_next.sl.r_7 run_next.sl.r_8 run_next.sl.r_9 run_next.sl.r_10 run_next.sl.r_11 run_next.sl.r_12 run_next.sl.r_13 run_next.sl.r_14 run_next.sl.r_15 run_next.sl.r_16 run_next.sl.r_17 run_next.sl.r_18 run_next.sl.r_19 run_next.sl.r_20 run_next.sl.r_21 run_next.sl.r_22 run_next.sl.r_23 run_next.sl.r_24 run_next.sl.r_25 run_next.sl.r_26 run_next.sl.r_27 run_next.sl.r_28 run_next.sl.r_29 run_next.sl.r_30 run_next.sl.r_31 run_next.sl.r_32 run_next.sl.r_33 run_next.sl.r_34 run_next.sl.r_35 run_next.sl.r_36 run_next.sl.r_37 run_next.sl.r_38 run_next.sl.r_39 run_next.sl.r_40 run_next.sl.r_41 run_next.sl.r_42 run_next.sl.r_43 run_next.sl.r_44 run_next.sl.r_45 run_next.sl.r_46 run_next.sl.r_47 run_next.sl.r_48 run_next.sl.r_49 run_next.sl.r_50 run_next.sl.r_51 run_next.sl.r_52 run_next.sl.r_53 run_next.sl.r_54 run_next.sl.r_55 run_next.sl.r_56 run_next.sl.r_57 run_next.sl.r_58 run_next.sl.r_59 run_next.sl.r_60 run_next.sl.r_61 run_next.sl.r_62 run_next.sl.r_63 run_next.sl.r_64 run_next.sl.r_65 run_next.sl.r_66 run_next.sl.r_67 run_next.sl.r_68 run_next.sl.r_69 run_next.sl.r_70 run_next.sl.r_71 run_next.sl.r_72 run_next.sl.r_73 run_next.sl.r_74 run_next.sl.r_75 run_next.sl.r_76 run_next.sl.r_77 run_next.sl.r_78 run_next.sl.r_79 run_next.sl.r_80 run_next.sl.r_81 run_next.sl.r_82 run_next.sl.r_83 run_next.sl.r_84 run_next.sl.r_85 run_next.sl.r_86 run_next.sl.r_87 run_next.sl.r_88
    simp only [readAt_whole harg2 zero3, readAt_whole harg3 zero2, readAt_whole harg4 zero2, readAt_whole harg5 zero2, readAt_whole harg6 zero2, readAt_whole harg8 zero2, readAt_whole harg9 zero2, readAt_whole harg10 zero2, readAt_whole harg12 zero2, readAt_whole harg14 zero2, readAt_whole harg15 zero2, readAt_whole harg16 zero2, readAt_whole harg23 zero2, readAt_whole harg24 zero2, readAt_whole harg25 zero2, readAt_rect harg7, readAt_rect harg11, readAt_rect harg13]
    clear * -
    rfl
  isplitl [S1]
  · iexists _; isplitr; swap; (· iexact S1)
    ipureintro
    refine (read_last _ _ zero2 _ _ _).trans ?_
    delta run_next.sl.r run_next.sl.r_1 run_next.sl.r_2 run_next.sl.r_3 run_next.sl.r_4 run_next.sl.r_5 run_next.sl.r_6 run_next.sl.r_7 run_next.sl.r_8 run_next.sl.r_9 run_next.sl.r_10 run_next.sl.r_11 run_next.sl.r_12 run_next.sl.r_13 run_next.sl.r_14 run_next.sl.r_15 run_next.sl.r_16 run_next.sl.r_17 run_next.sl.r_18 run_next.sl.r_19 run_next.sl.r_20 run_next.sl.r_21 run_next.sl.r_22 run_next.sl.r_23 run_next.sl.r_24 run_next.sl.r_25 run_next.sl.r_26 run_next.sl.r_27 run_next.sl.r_28 run_next.sl.r_29 run_next.sl.r_30 run_next.sl.r_31 run_next.sl.r_32 run_next.sl.r_33 run_next.sl.r_34 run_next.sl.r_35 run_next.sl.r_36 run_next.sl.r_37 run_next.sl.r_38 run_next.sl.r_39 run_next.sl.r_40 run_next.sl.r_41 run_next.sl.r_42 run_next.sl.r_43 run_next.sl.r_44 run_next.sl.r_45 run_next.sl.r_46 run_next.sl.r_47 run_next.sl.r_48 run_next.sl.r_49 run_next.sl.r_50 run_next.sl.r_51 run_next.sl.r_52 run_next.sl.r_53 run_next.sl.r_54 run_next.sl.r_55 run_next.sl.r_56 run_next.sl.r_57 run_next.sl.r_58 run_next.sl.r_59 run_next.sl.r_60 run_next.sl.r_61 run_next.sl.r_62 run_next.sl.r_63 run_next.sl.r_64 run_next.sl.r_65 run_next.sl.r_66 run_next.sl.r_67 run_next.sl.r_68 run_next.sl.r_69 run_next.sl.r_70 run_next.sl.r_71 run_next.sl.r_72 run_next.sl.r_73 run_next.sl.r_74 run_next.sl.r_75 run_next.sl.r_76 run_next.sl.r_77 run_next.sl.r_78 run_next.sl.r_79 run_next.sl.r_80 run_next.sl.r_81 run_next.sl.r_82 run_next.sl.r_83 run_next.sl.r_84 run_next.sl.r_85 run_next.sl.r_86 run_next.sl.r_87 run_next.sl.r_88 run_next.sl.r_89 run_next.sl.r_90
    simp only [readAt_whole harg2 zero3, readAt_whole harg3 zero2, readAt_whole harg4 zero2, readAt_whole harg5 zero2, readAt_whole harg6 zero2, readAt_whole harg8 zero2, readAt_whole harg9 zero2, readAt_whole harg10 zero2, readAt_whole harg12 zero2, readAt_whole harg14 zero2, readAt_whole harg15 zero2, readAt_whole harg16 zero2, readAt_whole harg23 zero2, readAt_whole harg24 zero2, readAt_whole harg25 zero2, readAt_rect harg7, readAt_rect harg11, readAt_rect harg13]
    clear * -
    rfl
  iexists _; isplitr; swap; (· iexact S2)
  ipureintro
  refine (read_last _ _ zero2 _ _ _).trans ?_
  delta run_next.sl.r run_next.sl.r_1 run_next.sl.r_2 run_next.sl.r_3 run_next.sl.r_4 run_next.sl.r_5 run_next.sl.r_6 run_next.sl.r_7 run_next.sl.r_8 run_next.sl.r_9 run_next.sl.r_10 run_next.sl.r_11 run_next.sl.r_12 run_next.sl.r_13 run_next.sl.r_14 run_next.sl.r_15 run_next.sl.r_16 run_next.sl.r_17 run_next.sl.r_18 run_next.sl.r_19 run_next.sl.r_20 run_next.sl.r_21 run_next.sl.r_22 run_next.sl.r_23 run_next.sl.r_24 run_next.sl.r_25 run_next.sl.r_26 run_next.sl.r_27 run_next.sl.r_28 run_next.sl.r_29 run_next.sl.r_30 run_next.sl.r_31 run_next.sl.r_32 run_next.sl.r_33 run_next.sl.r_34 run_next.sl.r_35 run_next.sl.r_36 run_next.sl.r_37 run_next.sl.r_38 run_next.sl.r_39 run_next.sl.r_40 run_next.sl.r_41 run_next.sl.r_42 run_next.sl.r_43 run_next.sl.r_44 run_next.sl.r_45 run_next.sl.r_46 run_next.sl.r_47 run_next.sl.r_48 run_next.sl.r_49 run_next.sl.r_50 run_next.sl.r_51 run_next.sl.r_52 run_next.sl.r_53 run_next.sl.r_54 run_next.sl.r_55 run_next.sl.r_56 run_next.sl.r_57 run_next.sl.r_58 run_next.sl.r_59 run_next.sl.r_60 run_next.sl.r_61 run_next.sl.r_62 run_next.sl.r_63 run_next.sl.r_64 run_next.sl.r_65 run_next.sl.r_66 run_next.sl.r_67 run_next.sl.r_68 run_next.sl.r_69 run_next.sl.r_70 run_next.sl.r_71 run_next.sl.r_72 run_next.sl.r_73 run_next.sl.r_74 run_next.sl.r_75 run_next.sl.r_76 run_next.sl.r_77 run_next.sl.r_78 run_next.sl.r_79 run_next.sl.r_80 run_next.sl.r_81 run_next.sl.r_82 run_next.sl.r_83 run_next.sl.r_84 run_next.sl.r_85
  simp only [readAt_whole harg2 zero3, readAt_whole harg3 zero2, readAt_whole harg4 zero2, readAt_whole harg5 zero2, readAt_whole harg6 zero2, readAt_whole harg8 zero2, readAt_whole harg9 zero2, readAt_whole harg10 zero2, readAt_whole harg12 zero2, readAt_whole harg14 zero2, readAt_whole harg15 zero2, readAt_whole harg16 zero2, readAt_whole harg23 zero2, readAt_whole harg24 zero2, readAt_whole harg25 zero2, readAt_rect harg7, readAt_rect harg11, readAt_rect harg13]
  clear * -
  rfl

end Cert.Kernel2Ideal.Mix

end
-- ==== Proof.Kernel2Ideal.Frame.lean ====
/- The frame of the input projection's call, with proof data that name what every point leaves: its six output tiles
   and, in the scratch buffers, the state that the next tile of the same sequence continues from. -/
module

public import proofs.«01_k».proof.Proof.Kernel2Ideal.First
public import proofs.«01_k».proof.Proof.Kernel2Ideal.Next
public import Idealize.ShloMosaic.Lib.Claim

@[expose] public section

set_option maxRecDepth 16384

noncomputable section

namespace Cert.Kernel2Ideal.Mix

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem point_lt (t : Fin cfg0.N) : t.val < 32 := Nat.lt_of_lt_of_eq t.isLt N_0

theorem first_iff (t : Fin cfg0.N) : first (grid0.coords t) ↔ t.val % 16 = 0 := hcond0_0 t

/-! ## What every point leaves -/

def blocksAt (c : Dev nD) (t : Fin cfg0.N) : Blocks F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t⟩

/-- The contents of the three scratch buffers. -/
structure Carry (F : FTy → Type) where
  s0 : Vec F S1x128 .f32
  s1 : Vec F S8x1024 .f32
  s2 : Vec F S1x1024 .f32

/-- A sequence starts from zeroes. -/
def reset : Carry F := ⟨k0_pay3, k0_pay4, k0_pay5⟩

def nextAt (c : Dev nD) (t : Fin cfg0.N) (s : Carry F) : Carry F :=
  ⟨next0 (blocksAt m c t) s.s0, next1 (blocksAt m c t), next2 (blocksAt m c t) (start (grid0.coords t)) s.s1 s.s2⟩

/-- The scratch after point `n`. -/
def carryAt (c : Dev nD) : (n : ℕ) → n < cfg0.N → Carry F
  | 0, h => nextAt m c ⟨0, h⟩ reset
  | n + 1, h => nextAt m c ⟨n + 1, h⟩ (if (n + 1) % 16 = 0 then reset else carryAt c n (Nat.lt_of_succ_lt h))

/-- The scratch that a point's values are computed from. -/
def entryAt (c : Dev nD) (t : Fin cfg0.N) : Carry F :=
  if t.val % 16 = 0 then reset else carryAt m c (t.val - 1) (Nat.lt_of_le_of_lt (Nat.sub_le _ _) t.isLt)

theorem entryAt_first (c : Dev nD) (t : Fin cfg0.N) (h : t.val % 16 = 0) : entryAt m c t = reset := if_pos h

theorem entryAt_next (c : Dev nD) (t : Fin cfg0.N) (h : ¬ t.val % 16 = 0) (h' : t.val - 1 < cfg0.N) : entryAt m c t = carryAt m c (t.val - 1) h' := if_neg h

theorem carryAt_eq (c : Dev nD) (t : Fin cfg0.N) : carryAt m c t.val t.isLt = nextAt m c t (entryAt m c t) := by
  obtain ⟨n, hn⟩ := t
  cases n with
  | zero => rw [carryAt, entryAt_first m c ⟨0, hn⟩ rfl]
  | succ n => rw [carryAt]; rfl

def tile0 (c : Dev nD) (t : Fin cfg0.N) : Vec F S1x1024x512 .bf16 := out0 (blocksAt m c t)
def tile1 (c : Dev nD) (t : Fin cfg0.N) : Vec F S1x512x1024 .bf16 := out1 (blocksAt m c t)
def tile2 (c : Dev nD) (t : Fin cfg0.N) : Vec F S1x1024x512 .bf16 := out2 (blocksAt m c t)
def tile3 (c : Dev nD) (t : Fin cfg0.N) : Vec F S1x512x128 .bf16 := out3 (blocksAt m c t) (entryAt m c t).s0
def tile4 (c : Dev nD) (t : Fin cfg0.N) : Vec F S1x512x1024 .bf16 :=
  out4 (blocksAt m c t) (start (grid0.coords t)) (entryAt m c t).s1 (entryAt m c t).s2
def tile5 (c : Dev nD) (t : Fin cfg0.N) : Vec F S1x1x8x128 .f32 := out5 (blocksAt m c t) (entryAt m c t).s0

/-! ## The invariant over the scratch buffers -/

/-- Within a sequence the scratch holds what the point before left. -/
def CarryOk (c : Dev nD) (n : ℕ) (s : Carry F) : Prop := n % 16 ≠ 0 → ∀ h : n - 1 < cfg0.N, s = carryAt m c (n - 1) h

def Inv (c : Dev nD) (n : ℕ) : sProp 𝕄 :=
  iprop((∃ s : Carry F, ⌜CarryOk m c n s⌝ ∗ owns (c : Thread nD τ) scM0_0 fullShare s.s0 ∗ owns (c : Thread nD τ) scM0_1 fullShare s.s1
    ∗ owns (c : Thread nD τ) scM0_2 fullShare s.s2) ∗ (∃ r, prngReg c r))

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => tile0 m c t
    | ⟨16, _⟩ => tile1 m c t
    | ⟨17, _⟩ => tile2 m c t
    | ⟨18, _⟩ => tile3 m c t
    | ⟨19, _⟩ => tile4 m c t
    | ⟨20, _⟩ => tile5 m c t
    | ⟨k + 21, h⟩ => absurd h (Nat.not_lt.mpr (Nat.le_add_left 21 k))
  Φ t := Inv m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = tile0 m c t := by dsimp only [dats]
theorem after_16 (c : Dev nD) (t : Fin cfg0.N) : (dats m 0 c).after 16 t = tile1 m c t := by dsimp only [dats]
theorem after_17 (c : Dev nD) (t : Fin cfg0.N) : (dats m 0 c).after 17 t = tile2 m c t := by dsimp only [dats]
theorem after_18 (c : Dev nD) (t : Fin cfg0.N) : (dats m 0 c).after 18 t = tile3 m c t := by dsimp only [dats]
theorem after_19 (c : Dev nD) (t : Fin cfg0.N) : (dats m 0 c).after 19 t = tile4 m c t := by dsimp only [dats]
theorem after_20 (c : Dev nD) (t : Fin cfg0.N) : (dats m 0 c).after 20 t = tile5 m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14]
  rw [show (dats m 0 c).Φ t.succ = Inv m c (t.val + 1) from rfl, show (dats m 0 c).Φ t.castSucc = Inv m c t.val from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20]
  unfold Inv
  have hnext : CarryOk m c (t.val + 1) (nextAt m c t (entryAt m c t)) := fun _ _ => (carryAt_eq m c t).symm
  iintro ⟨⟨⟨%s, %hs, HA, HB, HC⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  by_cases h0 : t.val % 16 = 0
  · have e := entryAt_first m c t h0
    unfold tile0 tile1 tile2 tile3 tile4 tile5
    rw [e] at hnext ⊢
    iapply (run_first c (grid0.coords t) _ _ _ _ _ _ _ _ _ _ _ _ _ _ _ _ _ _ _ _ _ _ _ _ _ _ _ _ _ _ _ _ _ _ _ _ _ _ _ _ _ _ scM0_0 _ scM0_1 _ scM0_2 _ (blocksAt m c t) ((first_iff t).mpr h0) s.s0 s.s1 s.s2 Set.univ _)
    isplitl [H0 H1 H2 H3 H4 H5 H6 H7 H8 H9 H10 H11 H12 H13 H14]
    · unfold ins
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [HA]; · iexact HA
    isplitl [HB]; · iexact HB
    isplitl [HC]; · iexact HC
    unfold ins
    iintro ⟨⟨H0, H1, H2, H3, H4, H5, H6, H7, H8, H9, H10, H11, H12, H13, H14⟩, H15, H16, H17, H18, H19, H20, HA, HB, HC⟩
    isplitl [HA HB HC HR]
    · isplitl [HA HB HC]
      · iexists (⟨next0 (blocksAt m c t) k0_pay3, next1 (blocksAt m c t), next2 (blocksAt m c t) (start (grid0.coords t)) k0_pay4 k0_pay5⟩ : Carry F)
        isplitr; swap
        · isplitl [HA]; · iexact HA
          isplitl [HB]; · iexact HB
          iexact HC
        ipureintro; exact hnext
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  · have hl : t.val - 1 < cfg0.N := Nat.lt_of_le_of_lt (Nat.sub_le _ _) t.isLt
    have e : entryAt m c t = s := (entryAt_next m c t h0 hl).trans (hs h0 hl).symm
    unfold tile0 tile1 tile2 tile3 tile4 tile5
    rw [e] at hnext ⊢
    iapply (run_next c (grid0.coords t) _ _ _ _ _ _ _ _ _ _ _ _ _ _ _ _ _ _ _ _ _ _ _ _ _ _ _ _ _ _ _ _ _ _ _ _ _ _ _ _ _ _ scM0_0 _ scM0_1 _ scM0_2 _ (blocksAt m c t) (fun e => h0 ((first_iff t).mp e)) s.s0 s.s1 s.s2 Set.univ _)
    isplitl [H0 H1 H2 H3 H4 H5 H6 H7 H8 H9 H10 H11 H12 H13 H14]
    · unfold ins
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [HA]; · iexact HA
    isplitl [HB]; · iexact HB
    isplitl [HC]; · iexact HC
    unfold ins
    iintro ⟨⟨H0, H1, H2, H3, H4, H5, H6, H7, H8, H9, H10, H11, H12, H13, H14⟩, H15, H16, H17, H18, H19, H20, HA, HB, HC⟩
    isplitl [HA HB HC HR]
    · isplitl [HA HB HC]
      · iexists (⟨next0 (blocksAt m c t) s.s0, next1 (blocksAt m c t), next2 (blocksAt m c t) (start (grid0.coords t)) s.s1 s.s2⟩ : Carry F)
        isplitr; swap
        · isplitl [HA]; · iexact HA
          isplitl [HB]; · iexact HB
          iexact HC
        ipureintro; exact hnext
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem inv_in (c : Dev nD) : Pipeline.ΦA spec0 c ⊢ (dats (F := F) m 0 c).Φ 0 := by
  rw [show (dats (F := F) m 0 c).Φ 0 = Inv m c 0 from rfl, PhiA0_eq]
  unfold Inv
  iintro ⟨⟨⟨%a, HA⟩, ⟨%b, HB⟩, ⟨%d, HC⟩⟩, HR⟩
  isplitr [HR]; swap; · iexact HR
  iexists (⟨a, b, d⟩ : Carry F)
  isplitr; swap
  · isplitl [HA]; · iexact HA
    isplitl [HB]; · iexact HB
    iexact HC
  ipureintro; intro h; exact absurd rfl h

theorem inv_out (c : Dev nD) : (dats (F := F) m 0 c).Φ (Fin.last cfg0.N) ⊢ Pipeline.ΦA spec0 c := by
  rw [show (dats (F := F) m 0 c).Φ (Fin.last cfg0.N) = Inv m c cfg0.N from rfl, PhiA0_eq]
  unfold Inv
  iintro ⟨⟨%s, %hs, HA, HB, HC⟩, HR⟩
  isplitr [HR]; swap; · iexact HR
  isplitl [HA]; · iexists _; iexact HA
  isplitl [HB]; · iexists _; iexact HB
  iexists _; iexact HC

set_option backward.isDefEq.respectTransparency.types false in
set_option maxHeartbeats 800000 in
/-- The launch: every fair execution ends, with every staged array at what the proof data give and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The frame: the run ends, every argument is unchanged, every semaphore counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel2Ideal.Mix

end
-- ==== Proof.Mix.Scalar.lean ====
/- Scalar facts over the extended reals used by the gated linear recurrence. -/
module

public import Idealize.ShloMosaic.Lib.Pointwise

@[expose] public section

noncomputable section

namespace Cert.Mix

open Idealize.ShloMosaic

/-- The softplus of a number. -/
def softplus (x : EReal) : EReal := max x 0 + Ideal.log1p (Ideal.exp (-(max x (-x))))

theorem exp_nonneg (x : EReal) : 0 ≤ Ideal.exp x := by
  induction x using EReal.rec with
  | bot => simp
  | top => simp
  | coe r => simpa using (Real.exp_pos r).le

theorem exp_ne_top {x : EReal} (h : x ≤ 0) : Ideal.exp x ≠ ⊤ := by
  induction x using EReal.rec with
  | bot => simp
  | top => simp at h
  | coe r => simp

theorem log1p_nonneg {x : EReal} (h : 0 ≤ x) : 0 ≤ Ideal.log1p x := by
  unfold Ideal.log1p
  induction x using EReal.rec with
  | bot => simp at h
  | top => rw [EReal.add_top_of_ne_bot (show (1 : EReal) ≠ ⊥ from EReal.coe_ne_bot 1)]; simp
  | coe r =>
    have hr : 0 ≤ r := by exact_mod_cast h
    rw [show (1 : EReal) + (r : EReal) = ((1 + r : ℝ) : EReal) by push_cast; rfl, Ideal.log_coe, if_neg (by linarith)]
    exact_mod_cast Real.log_nonneg (by linarith)

theorem softplus_nonneg (x : EReal) : 0 ≤ softplus x :=
  add_nonneg (le_max_right _ _) (log1p_nonneg (exp_nonneg _))

theorem logistic_nonneg (x : EReal) : 0 ≤ Ideal.logistic x := by
  induction x using EReal.rec with
  | bot => simp
  | top => simp
  | coe r =>
    rw [Ideal.logistic_coe]
    exact_mod_cast (inv_pos.mpr (by positivity : (0 : ℝ) < 1 + Real.exp (-r))).le

theorem neg_mul_le {k r s : EReal} (hk : k ≤ 0) (hr : 0 ≤ r) (hs : 0 ≤ s) : k * r * s ≤ 0 := by
  rw [mul_assoc]
  have h := EReal.mul_nonneg_iff.mpr (Or.inl ⟨hr, hs⟩)
  exact EReal.mul_nonpos_iff.mpr (Or.inr ⟨hk, h⟩)

theorem real_root (r : ℝ) : Real.tanh (-r) * (1 + Real.exp r * Real.exp r) = 1 - Real.exp (2 * r) := by
  have e : Real.exp r * Real.exp (-r) = 1 := by rw [← Real.exp_add]; simp
  have e2 : Real.exp (2 * r) = Real.exp r * Real.exp r := by rw [← Real.exp_add]; ring_nf
  have hp := Real.exp_pos r
  have hn := Real.exp_pos (-r)
  rw [Real.tanh_eq_sinh_div_cosh, Real.sinh_eq, Real.cosh_eq, neg_neg, e2]
  have hd : Real.exp (-r) + Real.exp r ≠ 0 := by positivity
  field_simp
  linear_combination (2 * Real.exp r) * e

/-- The square root taken through a reciprocal root is the square root, and the difference under it is a product. -/
theorem root_eq {L : EReal} (h : L ≤ 0) :
    (if 0 < Ideal.tanh (-L) * (1 + Ideal.exp L * Ideal.exp L) then
        Ideal.tanh (-L) * (1 + Ideal.exp L * Ideal.exp L) * Ideal.rsqrt (Ideal.tanh (-L) * (1 + Ideal.exp L * Ideal.exp L)) else 0)
      = Ideal.sqrt (-(Ideal.exp (((2 : ℝ) : EReal) * L) - 1)) := by
  induction L using EReal.rec with
  | bot =>
    rw [EReal.coe_mul_bot_of_pos (by norm_num)]
    have e1 : Ideal.rsqrt 1 = 1 := by
      rw [← EReal.coe_one, Ideal.rsqrt_coe]; simp
    have e2 : Ideal.sqrt 1 = 1 := by
      rw [← EReal.coe_one, Ideal.sqrt_coe]; simp
    simp [e1, e2]
  | top => simp at h
  | coe r =>
    have hr : r ≤ 0 := by exact_mod_cast h
    have e : Ideal.tanh (-(r : EReal)) * (1 + Ideal.exp (r : EReal) * Ideal.exp (r : EReal)) = ((1 - Real.exp (2 * r) : ℝ) : EReal) := by
      rw [← EReal.coe_neg, Ideal.tanh_coe, Ideal.exp_coe, ← real_root r]
      push_cast
      rfl
    have e2 : -(Ideal.exp (((2 : ℝ) : EReal) * (r : EReal)) - 1) = ((1 - Real.exp (2 * r) : ℝ) : EReal) := by
      rw [← EReal.coe_mul, Ideal.exp_coe, ← EReal.coe_one, ← EReal.coe_sub, ← EReal.coe_neg]
      congr 1; ring
    rw [e, e2]
    have hy : 0 ≤ 1 - Real.exp (2 * r) := by
      have := Real.exp_le_one_iff.mpr (show 2 * r ≤ 0 by linarith)
      linarith
    generalize 1 - Real.exp (2 * r) = y at hy
    rw [Ideal.sqrt_coe, if_neg (show ¬ y < 0 by linarith)]
    by_cases h0 : 0 < y
    · rw [if_pos (by exact_mod_cast h0), Ideal.rsqrt_coe, if_neg (show ¬ y < 0 by linarith), if_neg h0.ne', ← EReal.coe_mul]
      congr 1
      have := Real.mul_self_sqrt hy
      have hs : 0 < Real.sqrt y := Real.sqrt_pos.mpr h0
      field_simp
      nlinarith
    · have : y = 0 := le_antisymm (not_lt.mp h0) hy
      subst this
      simp

end Cert.Mix
end
-- ==== Proof.Mix.Scan.lean ====
/- A first-order linear recurrence, and the doubling scheme that computes eight of its steps at once. -/
module

public import Idealize.ShloMosaic.Lib.Pointwise

@[expose] public section

noncomputable section

namespace Cert.Mix

/-- The recurrence `h ↦ a n * h + b n`, from `h`, after `n` steps. -/
def lin (a b : ℕ → EReal) (h : EReal) : ℕ → EReal
  | 0 => h
  | n + 1 => a n * lin a b h n + b n

/-- The `n` steps of the recurrence that end with step `i`, applied to a value. -/
def last (a b : ℕ → EReal) : ℕ → ℕ → EReal → EReal
  | 0, _, h => h
  | n + 1, i, h => a i * last a b n (i - 1) h + b i

theorem last_add (a b : ℕ → EReal) (k n i : ℕ) (h : EReal) (hk : k ≤ i + 1) :
    last a b (k + n) i h = last a b k i (last a b n (i - k) h) := by
  induction k generalizing i with
  | zero => simp [last]
  | succ k ih =>
    rw [show k + 1 + n = k + n + 1 by omega]
    show a i * last a b (k + n) (i - 1) h + b i = a i * last a b k (i - 1) (last a b n (i - (k + 1)) h) + b i
    rcases Nat.eq_zero_or_pos i with h0 | h0
    · subst h0
      obtain rfl : k = 0 := by omega
      simp [last]
    · rw [ih (i - 1) (by omega), show i - 1 - k = i - (k + 1) by omega]

theorem lin_add (a b : ℕ → EReal) (h : EReal) (s i : ℕ) :
    lin a b h (s + i + 1) = last (fun n => a (s + n)) (fun n => b (s + n)) (i + 1) i (lin a b h s) := by
  induction i with
  | zero => rfl
  | succ i ih =>
    show a (s + (i + 1)) * lin a b h (s + (i + 1)) + b (s + (i + 1)) = a (s + (i + 1)) * last _ _ (i + 1) (i + 1 - 1) (lin a b h s) + b (s + (i + 1))
    rw [show s + (i + 1) = s + i + 1 by omega, ih]
    rfl

theorem lin_congr {a b a' b' : ℕ → EReal} (h : EReal) (n : ℕ) (ha : ∀ i < n, a i = a' i) (hb : ∀ i < n, b i = b' i) :
    lin a b h n = lin a' b' h n := by
  induction n with
  | zero => rfl
  | succ n ih =>
    show a n * lin a b h n + b n = a' n * lin a' b' h n + b' n
    rw [ih (fun i hi => ha i (by omega)) (fun i hi => hb i (by omega)), ha n (by omega), hb n (by omega)]

/-- Pairs of a factor and a term, one for each of a group's steps, that stand for the last `d` steps. -/
structure Stands (a b : ℕ → EReal) (d : ℕ) (A B : ℕ → EReal) : Prop where
  nonneg : ∀ i < 8, 0 ≤ A i
  ne_top : ∀ i < 8, A i ≠ ⊤
  eq : ∀ i < 8, ∀ h, A i * h + B i = last a b (min d (i + 1)) i h

theorem stands_one {a b : ℕ → EReal} (h0 : ∀ i < 8, 0 ≤ a i) (ht : ∀ i < 8, a i ≠ ⊤) : Stands a b 1 a b where
  nonneg := h0
  ne_top := ht
  eq i _ h := by rw [show min 1 (i + 1) = 0 + 1 by omega]; rfl

/-- One round of the doubling scheme. -/
theorem Stands.double {a b A B : ℕ → EReal} {d : ℕ} (H : Stands a b d A B) (hd : 0 < d) :
    Stands a b (d + d) (fun i => if d ≤ i then A i * A (i - d) else A i) (fun i => (if d ≤ i then A i * B (i - d) else 0) + B i) where
  nonneg i hi := by
    by_cases h : d ≤ i
    · simp only [if_pos h]
      exact EReal.mul_nonneg_iff.mpr (Or.inl ⟨H.nonneg i hi, H.nonneg _ (by omega)⟩)
    · simp only [if_neg h]
      exact H.nonneg i hi
  ne_top i hi := by
    by_cases h : d ≤ i
    · simp only [if_pos h]
      have h1 := H.nonneg i hi
      have h2 := H.nonneg (i - d) (by omega)
      have t1 := H.ne_top i hi
      have t2 := H.ne_top (i - d) (by omega)
      generalize A i = x at *
      generalize A (i - d) = y at *
      lift x to ℝ using ⟨t1, ne_of_gt (lt_of_lt_of_le EReal.bot_lt_zero h1)⟩
      lift y to ℝ using ⟨t2, ne_of_gt (lt_of_lt_of_le EReal.bot_lt_zero h2)⟩
      rw [← EReal.coe_mul]
      exact EReal.coe_ne_top _
    · simp only [if_neg h]
      exact H.ne_top i hi
  eq i hi h := by
    by_cases hc : d ≤ i
    · simp only [if_pos hc]
      rw [show min (d + d) (i + 1) = d + min d (i - d + 1) by omega, last_add _ _ _ _ _ _ (by omega), ← H.eq (i - d) (by omega),
        show last a b d i = last a b (min d (i + 1)) i by rw [show min d (i + 1) = d by omega], ← H.eq i hi,
        EReal.left_distrib_of_nonneg_of_ne_top (H.nonneg i hi) (H.ne_top i hi), mul_assoc (A i), add_assoc]
    · simp only [if_neg hc]
      rw [zero_add, H.eq i hi h, show min (d + d) (i + 1) = min d (i + 1) by omega]

end Cert.Mix
end
-- ==== Proof.Mix.Model.lean ====
/- The mixer's input projections and its gated linear recurrence, as functions of the arguments' elements over the
   extended reals: what both programs are shown to compute. -/
module

public import proofs.«01_k».proof.Proof.Model
public import proofs.«01_k».proof.Proof.Mix.Scalar
public import proofs.«01_k».proof.Proof.Mix.Scan

@[expose] public section

noncomputable section

namespace Cert.Mix

open Idealize.ShloMosaic Cert.Mlp

/-- Arrays of three axes by their extents. -/
abbrev Cube (a b c : Nat) : Type := (⟨3, ![a, b, c]⟩ : Shape).Idx → EReal

/-- The arguments. -/
structure Args where
  x : Cube 2 8192 2048
  gain : Lst 2048
  w : Mat 2048 5136
  cw : Mat 4 1024
  cb : Lst 1024
  wa : Cube 16 64 64
  ba : Lst 1024
  wx : Cube 16 64 64
  bx : Lst 1024
  lam : Lst 1024

/-- An element of a row scaled by the row's root mean square and a gain. -/
def scaled (x : Fin 2048 → EReal) (gain : EReal) (k : Fin 2048) : EReal :=
  x k * Ideal.rsqrt (Ideal.div (∑ k : Fin 2048, x k * x k) (Ideal.ofBits .f32 0x45000000#32) + Ideal.ofBits .f32 0x358637BD#32) * gain

/-- The value `k` tokens back, zero before the first token. -/
def back (k : Nat) (u : Fin 8192 → EReal) (s : Fin 8192) : EReal := if k ≤ s.val then u ⟨s.val - k, by omega⟩ else 0

/-- The causal convolution of four taps. -/
def conv (b w3 w2 w1 w0 : EReal) (u : Fin 8192 → EReal) (s : Fin 8192) : EReal :=
  b + w3 * u s + w2 * back 1 u s + w1 * back 2 u s + w0 * back 3 u s

/-- A gate: the logistic of a block-diagonal product of 16 blocks of 64 channels, with a bias. -/
def gate (v : Fin 1024 → EReal) (w : Cube 16 64 64) (bias : EReal) (c : Fin 1024) : EReal :=
  Ideal.logistic ((∑ k : Fin 64, v ⟨c.val / 64 * 64 + k.val, by omega⟩ * w (ix3 ⟨c.val / 64, by omega⟩ k ⟨c.val % 64, by omega⟩)) + bias)

/-- The factor of the input: one at the first token, else the root of one less the squared decay. -/
def amount (L : EReal) (s : Nat) : EReal := if s = 0 then 1 else Ideal.sqrt (-(Ideal.exp (((2 : ℝ) : EReal) * L) - 1))

variable (A : Args) (b : Fin 2)

def proj (s : Fin 8192) (j : Fin 5136) : EReal :=
  ∑ k : Fin 2048, scaled (fun k => A.x (ix3 b s k)) (A.gain (ix1 k)) k * A.w (ix2 k j)

/-- The recurrence's input after its convolution. -/
def fed (s : Fin 8192) (c : Fin 1024) : EReal :=
  conv (A.cb (ix1 c)) (A.cw (ix2 3 c)) (A.cw (ix2 2 c)) (A.cw (ix2 1 c)) (A.cw (ix2 0 c)) (fun s => proj A b s ⟨3088 + c.val, by omega⟩) s

/-- The logarithm of the decay. -/
def rate (s : Fin 8192) (c : Fin 1024) : EReal :=
  Ideal.ofBits .f32 0xC1000000#32 * gate (fed A b s) A.wa (A.ba (ix1 c)) c * softplus (-A.lam (ix1 c))

def decay (s : Fin 8192) (c : Fin 1024) : EReal := Ideal.exp (rate A b s c)

def drive (s : Fin 8192) (c : Fin 1024) : EReal :=
  amount (rate A b s c) s.val * gate (fed A b s) A.wx (A.bx (ix1 c)) c * fed A b s c

/-- A function of the tokens at every number. -/
def ext (f : Fin 8192 → EReal) (n : ℕ) : EReal := if h : n < 8192 then f ⟨n, h⟩ else 0

/-- The recurrence's state after `n` tokens. -/
def state (c : Fin 1024) (n : ℕ) : EReal := lin (ext fun s => decay A b s c) (ext fun s => drive A b s c) 0 n

/-- The four results. -/
def queries : Cube 2 1024 8192 := fun i => proj A (i 0) (i 2) ⟨(i 1).val, by have : (i 1).val < 1024 := (i 1).isLt; omega⟩ * Ideal.ofBits .f32 0x3E38AA3B#32
def keys : Cube 2 8192 1024 := fun i => proj A (i 0) (i 1) ⟨1024 + (i 2).val, by have : (i 2).val < 1024 := (i 2).isLt; omega⟩
def values : Cube 2 1024 8192 := fun i => proj A (i 0) (i 2) ⟨2048 + (i 1).val, by have : (i 1).val < 1024 := (i 1).isLt; omega⟩
def mixed : Cube 2 8192 1024 := fun i =>
  state A (i 0) (i 2) ((i 1).val + 1) * gelu (proj A (i 0) (i 1) ⟨4112 + (i 2).val, by have : (i 2).val < 1024 := (i 2).isLt; omega⟩)

theorem eight_neg : Ideal.ofBits .f32 0xC1000000#32 ≤ 0 := by
  rw [show Ideal.ofBits .f32 0xC1000000#32 = ((-8 : ℝ) : EReal) from by
    simp [Ideal.ofBits, Ideal.ieee]; rw [← EReal.coe_mul]; norm_num]
  exact_mod_cast (by norm_num : (-8 : ℝ) ≤ 0)

theorem rate_le (s : Fin 8192) (c : Fin 1024) : rate A b s c ≤ 0 := neg_mul_le eight_neg (logistic_nonneg _) (softplus_nonneg _)

theorem decay_nonneg (s : Fin 8192) (c : Fin 1024) : 0 ≤ decay A b s c := exp_nonneg _

theorem decay_ne_top (s : Fin 8192) (c : Fin 1024) : decay A b s c ≠ ⊤ := exp_ne_top (rate_le A b s c)

end Cert.Mix
end
-- ==== Proof.Kernel2Ideal.Payload.lean ====
/- The stored values of the input projection's body over the extended reals, read at an index. -/
module

public import proofs.«01_k».proof.Proof.Kernel2Ideal.Values
public import proofs.«01_k».proof.Proof.Mix.Model
public import Idealize.ShloMosaic.Lib.Pointwise
public import Idealize.ShloMosaic.Lib.Pipeline.Value

@[expose] public section

set_option maxRecDepth 16384

noncomputable section

namespace Cert.Kernel2Ideal.Mix

open Cert.Kernel2Ideal Cert.Kernel2Ideal.Gen
open Idealize.ShloMosaic

/-! ## The products -/

theorem pay6_apply (x : Vec Ideal S1x512x2048 .f32) (g : Vec Ideal S1x2048 .f32) (r : Fin 512) (k : Fin 2048) :
    k0_pay6 (F := Ideal) x g (ix2 r k) = Cert.Mix.scaled (fun k => x (ix3 0 r k)) (g (ix2 0 k)) k := by
  pointwise [k0_pay6, Cert.Mix.scaled]

theorem pay10_apply (h : FVec Ideal S512x2048 .bf16) (w : Vec Ideal S2048x1024 .bf16) (r : Fin 512) (l : Fin 1024) :
    k0_pay10 (F := Ideal) h w (ix2 r l) = ∑ k : Fin 2048, h (ix2 r k) * w (ix2 k l) := by
  pointwise [k0_pay10]

theorem pay11_apply (h : FVec Ideal S512x2048 .bf16) (w : Vec Ideal S2048x1024 .bf16) (r : Fin 512) (l : Fin 1024) :
    k0_pay11 (F := Ideal) h w (ix2 r l) = ∑ k : Fin 2048, h (ix2 r k) * w (ix2 k l) := by
  pointwise [k0_pay11]

theorem pay12_apply (h : FVec Ideal S512x2048 .bf16) (w : Vec Ideal S2048x1024 .bf16) (p : Fin 64) (q : Fin 8) (l : Fin 1024) :
    k0_pay12 (F := Ideal) h w (ix3 p q l) = k0_pay10 (F := Ideal) h w (ix2 ⟨p.val * 8 + q.val, by omega⟩ l) := by
  pointwise [k0_pay12]

theorem pay14_apply (G : FVec Ideal S512x1024 .f32) (q : Fin 8) (l : Fin 1024) :
    k0_pay14 (F := Ideal) G (ix2 q l) = G (ix2 ⟨504 + q.val, by omega⟩ l) := by
  pointwise [k0_pay14]

theorem pay116_apply (h : FVec Ideal S512x2048 .bf16) (w : Vec Ideal S1024x2048 .bf16) (d : Fin 1024) (r : Fin 512) :
    k0_pay116 (F := Ideal) h w (ix3 0 d r) = (∑ k : Fin 2048, w (ix2 d k) * h (ix2 r k)) * Ideal.ofBits .f32 0x3E38AA3B#32 := by
  pointwise [k0_pay116]

theorem pay122_apply (h : FVec Ideal S512x2048 .bf16) (w : Vec Ideal S1024x2048 .bf16) (d : Fin 1024) (r : Fin 512) :
    k0_pay122 (F := Ideal) h w (ix3 0 d r) = ∑ k : Fin 2048, w (ix2 d k) * h (ix2 r k) := by
  pointwise [k0_pay122]

theorem pay1_apply (h : FVec Ideal S512x2048 .bf16) (w : Vec Ideal S2048x1024 .bf16) (r : Fin 512) (l : Fin 1024) :
    k0_pay1 (F := Ideal) (k0_pay123 h w) (ix3 0 r l) = ∑ k : Fin 2048, h (ix2 r k) * w (ix2 k l) := by
  pointwise [k0_pay1, k0_pay123]

theorem pay115_apply (g v : FVec Ideal S512x1024 .f32) (r : Fin 512) (l : Fin 1024) :
    k0_pay115 (F := Ideal) g v (k0_pay114 g) (ix3 0 r l) = v (ix2 r l) * Cert.Mlp.gelu (g (ix2 r l)) := by
  pointwise [k0_pay115, k0_pay114, Cert.Mlp.gelu]

theorem pay4_apply (q : Fin 8) (l : Fin 1024) : k0_pay4 (F := Ideal) (ix2 q l) = 0 := by
  pointwise [k0_pay4]

theorem pay5_apply (l : Fin 1024) : k0_pay5 (F := Ideal) (ix2 0 l) = 0 := by
  pointwise [k0_pay5]

/-! ## The convolution -/

/-- The value `k` rows up in a tile of 512 rows under eight rows `u`. -/
def up (u : Vec Ideal S8x1024 .f32) (G : FVec Ideal S512x1024 .f32) (k : Nat) (hk : k ≤ 8) (r : Fin 512) (l : Fin 1024) : EReal :=
  if h : k ≤ r.val then G (ix2 ⟨r.val - k, by omega⟩ l) else u (ix2 ⟨8 + r.val - k, by omega⟩ l)

theorem lane_lt (q k : Nat) (hq : q < 8) (hk : k < 8) (a b : EReal) :
    Scalar.select (IntOp.cmpi CmpIPredicate.slt (BitVec.ofNat 32 q) (BitVec.ofNat 32 k)) a b = if q < k then a else b := by
  have h : ∀ q : Fin 8, ∀ k : Fin 8, IntOp.cmpi CmpIPredicate.slt (BitVec.ofNat 32 q.val) (BitVec.ofNat 32 k.val) = if q.val < k.val then 1#1 else 0#1 := by decide
  rw [h ⟨q, hq⟩ ⟨k, hk⟩]
  by_cases hc : q < k
  · simp [hc, Scalar.select]
  · simp [hc, Scalar.select]

theorem lane_ge (q k : Nat) (hq : q < 8) (hk : k < 8) (a b : EReal) :
    Scalar.select (IntOp.cmpi CmpIPredicate.sge (BitVec.ofNat 32 q) (BitVec.ofNat 32 k)) a b = if k ≤ q then a else b := by
  have h : ∀ q : Fin 8, ∀ k : Fin 8, IntOp.cmpi CmpIPredicate.sge (BitVec.ofNat 32 q.val) (BitVec.ofNat 32 k.val) = if k.val ≤ q.val then 1#1 else 0#1 := by decide
  rw [h ⟨q, hq⟩ ⟨k, hk⟩]
  by_cases hc : k ≤ q
  · simp [hc, Scalar.select]
  · simp [hc, Scalar.select]

theorem rolled (h : FVec Ideal S512x2048 .bf16) (w : Vec Ideal S2048x1024 .bf16) (u : Vec Ideal S8x1024 .f32) (k : Nat) (h0 : 0 < k) (hk : k < 8) (r : Fin 512) (l : Fin 1024) :
    (if r.val % 8 < k then (if h' : r.val / 8 < 1 then u (ix2 ⟨(r.val % 8 + 8 - k) % 8, by omega⟩ l)
        else k0_pay12 (F := Ideal) h w (ix3 ⟨r.val / 8 - 1, by omega⟩ ⟨(r.val % 8 + 8 - k) % 8, by omega⟩ l))
      else k0_pay12 (F := Ideal) h w (ix3 ⟨r.val / 8, by omega⟩ ⟨(r.val % 8 + 8 - k) % 8, by omega⟩ l)) = up u (k0_pay10 (F := Ideal) h w) k (by omega) r l := by
  have hr := r.isLt
  unfold up
  simp only [pay12_apply]
  by_cases h1 : r.val % 8 < k
  · rw [if_pos h1]
    by_cases h2 : r.val / 8 < 1
    · rw [dif_pos h2, dif_neg (by omega)]
      congr 2
      exact Fin.ext (by show (r.val % 8 + 8 - k) % 8 = 8 + r.val - k; omega)
    · rw [dif_neg h2, dif_pos (by omega)]
      congr 2
      exact Fin.ext (by show (r.val / 8 - 1) * 8 + (r.val % 8 + 8 - k) % 8 = r.val - k; omega)
  · rw [if_neg h1, dif_pos (by omega)]
    congr 2
    exact Fin.ext (by show r.val / 8 * 8 + (r.val % 8 + 8 - k) % 8 = r.val - k; omega)

theorem conv_apply (h : FVec Ideal S512x2048 .bf16) (w : Vec Ideal S2048x1024 .bf16) (u : Vec Ideal S8x1024 .f32) (b w3 w2 w1 w0 : Vec Ideal S1x1024 .f32)
    (r : Fin 512) (l : Fin 1024) :
    k0_pay15 (F := Ideal) (k0_pay12 h w) u lanes (k0_pay13 h w u b w3 w2) w1 w0 (ix2 r l)
      = b (ix2 0 l) + w3 (ix2 0 l) * k0_pay10 (F := Ideal) h w (ix2 r l) + w2 (ix2 0 l) * up u (k0_pay10 h w) 1 (by decide) r l
        + w1 (ix2 0 l) * up u (k0_pay10 h w) 2 (by decide) r l + w0 (ix2 0 l) * up u (k0_pay10 h w) 3 (by decide) r l := by
  rw [← rolled h w u 1 (by decide) (by decide), ← rolled h w u 2 (by decide) (by decide), ← rolled h w u 3 (by decide) (by decide),
    ← lane_lt (r.val % 8) 1 (by omega) (by decide), ← lane_lt (r.val % 8) 2 (by omega) (by decide), ← lane_lt (r.val % 8) 3 (by omega) (by decide)]
  have e : k0_pay10 (F := Ideal) h w (ix2 r l) = k0_pay12 (F := Ideal) h w (ix3 ⟨r.val / 8, by omega⟩ ⟨r.val % 8, by omega⟩ l) := by
    rw [pay12_apply]; congr 2; exact Fin.ext (by show r.val = r.val / 8 * 8 + r.val % 8; omega)
  rw [e]
  unfold k0_pay13
  generalize k0_pay12 (F := Ideal) h w = g
  pointwise [k0_pay15, lanes]

theorem pay16_apply (g : FVec Ideal S64x8x1024 .f32) (u : Vec Ideal S8x1024 .f32) (l : IVec S64x8x1024 32) (n : FVec Ideal S64x8x1024 .f32) (w1 w0 : Vec Ideal S1x1024 .f32)
    (i : S512x1024.Idx) : k0_pay16 (F := Ideal) g u l n w1 w0 i = k0_pay15 (F := Ideal) g u l n w1 w0 i := rfl

/-! ## The gates -/

theorem pay18_apply (g : FVec Ideal S64x8x1024 .f32) (u : Vec Ideal S8x1024 .f32) (l : IVec S64x8x1024 32) (n : FVec Ideal S64x8x1024 .f32) (w1 w0 : Vec Ideal S1x1024 .f32)
    (d : Vec Ideal S1x256x512 .bf16) (r : Fin 512) (j : Fin 256) :
    k0_pay18 (F := Ideal) g u l n w1 w0 d (ix2 r j) = ∑ k : Fin 256, k0_pay16 (F := Ideal) g u l n w1 w0 (ix2 r ⟨k.val, by omega⟩) * d (ix3 0 k ⟨j.val, by omega⟩) := by
  unfold k0_pay18 k0_pay17
  generalize k0_pay16 (F := Ideal) g u l n w1 w0 = v
  pointwise []

theorem pay19_apply (g : FVec Ideal S64x8x1024 .f32) (u : Vec Ideal S8x1024 .f32) (l : IVec S64x8x1024 32) (n : FVec Ideal S64x8x1024 .f32) (w1 w0 : Vec Ideal S1x1024 .f32)
    (d : Vec Ideal S1x256x512 .bf16) (r : Fin 512) (j : Fin 256) :
    k0_pay19 (F := Ideal) g u l n w1 w0 d (ix2 r j) = ∑ k : Fin 256, k0_pay16 (F := Ideal) g u l n w1 w0 (ix2 r ⟨k.val, by omega⟩) * d (ix3 0 k ⟨256 + j.val, by omega⟩) := by
  unfold k0_pay19 k0_pay17
  generalize k0_pay16 (F := Ideal) g u l n w1 w0 = v
  pointwise []

theorem pay20_apply (g : FVec Ideal S64x8x1024 .f32) (u : Vec Ideal S8x1024 .f32) (l : IVec S64x8x1024 32) (n : FVec Ideal S64x8x1024 .f32) (w1 w0 : Vec Ideal S1x1024 .f32)
    (r : Fin 512) (j : Fin 256) :
    k0_pay20 (F := Ideal) g u l n w1 w0 (ix2 r j) = k0_pay16 (F := Ideal) g u l n w1 w0 (ix2 r ⟨256 + j.val, by omega⟩) := by
  unfold k0_pay20
  generalize k0_pay16 (F := Ideal) g u l n w1 w0 = v
  pointwise []

theorem pay21_apply (v : FVec Ideal S512x256 .bf16) (d : Vec Ideal S1x256x512 .bf16) (r j : Fin 512) :
    k0_pay21 (F := Ideal) v d (ix2 r j) = ∑ k : Fin 256, v (ix2 r k) * d (ix3 0 k j) := by
  pointwise [k0_pay21]

theorem pay22_apply (v : FVec Ideal S512x1024 .bf16) (d : Vec Ideal S1x256x512 .bf16) (r j : Fin 512) :
    k0_pay22 (F := Ideal) v d (ix2 r j) = ∑ k : Fin 256, v (ix2 r ⟨512 + k.val, by omega⟩) * d (ix3 0 k j) := by
  pointwise [k0_pay22]

theorem pay23_apply (v : FVec Ideal S512x1024 .bf16) (d : Vec Ideal S1x256x512 .bf16) (r j : Fin 512) :
    k0_pay23 (F := Ideal) v d (ix2 r j) = ∑ k : Fin 256, v (ix2 r ⟨768 + k.val, by omega⟩) * d (ix3 0 k j) := by
  pointwise [k0_pay23]

theorem pay24_apply (v : FVec Ideal S512x1024 .bf16) (a : FVec Ideal S512x256 .f32) (b : FVec Ideal S512x256 .bf16) (d1 d2 d3 : Vec Ideal S1x256x512 .bf16)
    (z : Vec Ideal S1x1024 .f32) (r : Fin 512) (c : Fin 1024) :
    k0_pay24 (F := Ideal) v a b d1 d2 d3 z (ix2 r c)
      = Ideal.logistic ((if h : c.val < 256 then a (ix2 r ⟨c.val, h⟩) else if h : c.val - 256 < 256 then k0_pay21 (F := Ideal) b d1 (ix2 r ⟨256 + (c.val - 256), by omega⟩)
          else if h : c.val - 256 - 256 < 256 then k0_pay22 (F := Ideal) v d2 (ix2 r ⟨256 + (c.val - 256 - 256), by omega⟩) else k0_pay23 (F := Ideal) v d3 (ix2 r ⟨256 + (c.val - 256 - 256 - 256), by omega⟩))
          + z (ix2 0 c)) := by
  unfold k0_pay24
  generalize k0_pay21 (F := Ideal) b d1 = p1
  generalize k0_pay22 (F := Ideal) v d2 = p2
  generalize k0_pay23 (F := Ideal) v d3 = p3
  pointwise []

theorem pay25_apply (v : FVec Ideal S512x1024 .bf16) (a : FVec Ideal S512x256 .f32) (b : FVec Ideal S512x256 .bf16) (d1 d2 d3 : Vec Ideal S1x256x512 .bf16)
    (z : Vec Ideal S1x1024 .f32) (r : Fin 512) (c : Fin 1024) :
    k0_pay25 (F := Ideal) v a b d1 d2 d3 z (ix2 r c)
      = Ideal.ofBits .f32 0xC1000000#32 * Ideal.logistic ((if h : c.val < 256 then a (ix2 r ⟨c.val, h⟩) else if h : c.val - 256 < 256 then k0_pay21 (F := Ideal) b d1 (ix2 r ⟨c.val - 256, by omega⟩)
          else if h : c.val - 256 - 256 < 256 then k0_pay22 (F := Ideal) v d2 (ix2 r ⟨c.val - 256 - 256, by omega⟩) else k0_pay23 (F := Ideal) v d3 (ix2 r ⟨c.val - 256 - 256 - 256, by omega⟩))
          + z (ix2 0 c)) := by
  unfold k0_pay25
  generalize k0_pay21 (F := Ideal) b d1 = p1
  generalize k0_pay22 (F := Ideal) v d2 = p2
  generalize k0_pay23 (F := Ideal) v d3 = p3
  pointwise []

/-! ## The decay -/

theorem pay27_apply (z : Vec Ideal S1x1024 .f32) (c : Fin 1024) : k0_pay27 (F := Ideal) z (ix2 0 c) = max (0 - z (ix2 0 c)) 0 := by
  pointwise [k0_pay27, k0_pay26]

theorem pay28_apply (z : Vec Ideal S1x1024 .f32) (c : Fin 1024) :
    k0_pay28 (F := Ideal) z (ix2 0 c) = Ideal.exp (0 - max (0 - z (ix2 0 c)) (-(0 - z (ix2 0 c)))) := by
  pointwise [k0_pay28, k0_pay26]
  rfl

theorem pay29_apply (r0 : FVec Ideal S512x1024 .f32) (a e : FVec Ideal S1x1024 .f32) (r : Fin 512) (c : Fin 1024) :
    k0_pay29 (F := Ideal) r0 a e (ix2 r c) = r0 (ix2 r c) * (a (ix2 0 c) + Ideal.log1p (e (ix2 0 c))) := by
  pointwise [k0_pay29]

theorem pay31_apply (r0 : FVec Ideal S512x1024 .f32) (a e : FVec Ideal S1x1024 .f32) (p : Fin 64) (q : Fin 8) (c : Fin 1024) :
    k0_pay31 (F := Ideal) r0 a e (ix3 p q c) = Ideal.exp (k0_pay29 (F := Ideal) r0 a e (ix2 ⟨p.val * 8 + q.val, by omega⟩ c)) := by
  unfold k0_pay31 k0_pay30
  generalize k0_pay29 (F := Ideal) r0 a e = L
  pointwise []

end Cert.Kernel2Ideal.Mix
end
-- ==== Proof.Kernel2Ideal.Levels.lean ====
/- The recurrence's multipliers and addends over the extended reals: the doubling scheme's three rounds. -/
module

public import proofs.«01_k».proof.Proof.Kernel2Ideal.Payload

@[expose] public section

set_option maxRecDepth 16384

noncomputable section

namespace Cert.Kernel2Ideal.Mix

open Cert.Kernel2Ideal Cert.Kernel2Ideal.Gen
open Idealize.ShloMosaic

/-- A channel's eight values of one group, at every number. -/
def at8 (v : FVec Ideal S64x8x1024 .f32) (p : Fin 64) (c : Fin 1024) (i : ℕ) : EReal := if h : i < 8 then v (ix3 p ⟨i, h⟩ c) else 0

/-- The recurrence's input before the rounds. -/
def drv (w : BitVec 1) (x i L : FVec Ideal S512x1024 .f32) : FVec Ideal S64x8x1024 .f32 :=
  have m : FVec Ideal S512x1024 .f32 := mulf (tanh (subf (broadcast S512x1024 (Scalar.ofBits .f32 0x00000000#32)) L))
    (addf (broadcast S512x1024 (Scalar.ofBits .f32 0x3F800000#32)) (mulf (exp L) (exp L)))
  have z : FVec Ideal S512x1024 .f32 := select (cmpf .ogt m (broadcast S512x1024 (Scalar.ofBits .f32 0x00000000#32))) (mulf m (rsqrt m)) (broadcast S512x1024 (Scalar.ofBits .f32 0x00000000#32))
  have f : FVec Ideal S512x1024 .f32 := select (cmpi .eq (iota .tc S512x1024 32 [0] iota_S512x1024_d0_w32) (broadcast S512x1024 (Scalar.select w 0#32 4294967295#32)))
    (broadcast S512x1024 (Scalar.ofBits .f32 0x3F800000#32)) z
  shapeCast S64x8x1024 (mulf (mulf f i) x) shapeCasts_S512x1024_S64x8x1024

/-- One round's addends. -/
def roundB (d : BitVec 32) (g : IVec S64x8x1024 1) (A B : FVec Ideal S64x8x1024 .f32) : FVec Ideal S64x8x1024 .f32 :=
  addf (select g (mulf A (dynamicRotate 1 d none B rotates_S64x8x1024_d1)) (broadcast S64x8x1024 (Scalar.ofBits .f32 0x00000000#32))) B

/-- One round's multipliers. -/
def roundA (d : BitVec 32) (g : IVec S64x8x1024 1) (A : FVec Ideal S64x8x1024 .f32) : FVec Ideal S64x8x1024 .f32 :=
  select g (mulf A (dynamicRotate 1 d none A rotates_S64x8x1024_d1)) A

theorem pay33_eq (r : FVec Ideal S512x1024 .f32) (a e : FVec Ideal S1x1024 .f32) :
    k0_pay33 (F := Ideal) lanes r a e = roundA 1#32 (k0_pay32 lanes) (k0_pay31 (F := Ideal) r a e) := rfl

theorem pay35_eq (w : BitVec 1) (x i r : FVec Ideal S512x1024 .f32) (a e : FVec Ideal S1x1024 .f32) :
    k0_pay35 (F := Ideal) w x lanes i r a e = roundB 2#32 (k0_pay34 lanes) (k0_pay33 (F := Ideal) lanes r a e)
      (roundB 1#32 (k0_pay32 lanes) (k0_pay31 (F := Ideal) r a e) (drv w x i (k0_pay29 (F := Ideal) r a e))) := rfl

theorem mult_eq (A : FVec Ideal S64x8x1024 .f32) :
    mult (F := Ideal) lanes A (k0_pay34 lanes) = roundA 4#32 (k0_pay37 lanes) (roundA 2#32 (k0_pay34 lanes) A) := rfl

theorem adds_eq (A B : FVec Ideal S64x8x1024 .f32) :
    adds (F := Ideal) lanes A (k0_pay34 lanes) B = roundB 4#32 (k0_pay37 lanes) (roundA 2#32 (k0_pay34 lanes) A) B := rfl

theorem roundA1 (A : FVec Ideal S64x8x1024 .f32) (p : Fin 64) (q : Fin 8) (c : Fin 1024) : roundA 1#32 (k0_pay32 lanes) A (ix3 p q c)
    = if 1 ≤ q.val then A (ix3 p q c) * A (ix3 p ⟨(q.val + 8 - 1) % 8, by omega⟩ c) else A (ix3 p q c) := by
  rw [← lane_ge q.val 1 q.isLt (by decide)]
  pointwise [roundA, k0_pay32, lanes]

theorem roundA2 (A : FVec Ideal S64x8x1024 .f32) (p : Fin 64) (q : Fin 8) (c : Fin 1024) : roundA 2#32 (k0_pay34 lanes) A (ix3 p q c)
    = if 2 ≤ q.val then A (ix3 p q c) * A (ix3 p ⟨(q.val + 8 - 2) % 8, by omega⟩ c) else A (ix3 p q c) := by
  rw [← lane_ge q.val 2 q.isLt (by decide)]
  pointwise [roundA, k0_pay34, lanes]

theorem roundA4 (A : FVec Ideal S64x8x1024 .f32) (p : Fin 64) (q : Fin 8) (c : Fin 1024) : roundA 4#32 (k0_pay37 lanes) A (ix3 p q c)
    = if 4 ≤ q.val then A (ix3 p q c) * A (ix3 p ⟨(q.val + 8 - 4) % 8, by omega⟩ c) else A (ix3 p q c) := by
  rw [← lane_ge q.val 4 q.isLt (by decide)]
  pointwise [roundA, k0_pay37, lanes]

theorem roundB1 (A B : FVec Ideal S64x8x1024 .f32) (p : Fin 64) (q : Fin 8) (c : Fin 1024) : roundB 1#32 (k0_pay32 lanes) A B (ix3 p q c)
    = (if 1 ≤ q.val then A (ix3 p q c) * B (ix3 p ⟨(q.val + 8 - 1) % 8, by omega⟩ c) else 0) + B (ix3 p q c) := by
  rw [← lane_ge q.val 1 q.isLt (by decide)]
  pointwise [roundB, k0_pay32, lanes]

theorem roundB2 (A B : FVec Ideal S64x8x1024 .f32) (p : Fin 64) (q : Fin 8) (c : Fin 1024) : roundB 2#32 (k0_pay34 lanes) A B (ix3 p q c)
    = (if 2 ≤ q.val then A (ix3 p q c) * B (ix3 p ⟨(q.val + 8 - 2) % 8, by omega⟩ c) else 0) + B (ix3 p q c) := by
  rw [← lane_ge q.val 2 q.isLt (by decide)]
  pointwise [roundB, k0_pay34, lanes]

theorem roundB4 (A B : FVec Ideal S64x8x1024 .f32) (p : Fin 64) (q : Fin 8) (c : Fin 1024) : roundB 4#32 (k0_pay37 lanes) A B (ix3 p q c)
    = (if 4 ≤ q.val then A (ix3 p q c) * B (ix3 p ⟨(q.val + 8 - 4) % 8, by omega⟩ c) else 0) + B (ix3 p q c) := by
  rw [← lane_ge q.val 4 q.isLt (by decide)]
  pointwise [roundB, k0_pay37, lanes]

/-- A round over the arrays is a round of the doubling scheme. -/
theorem stands_round {a b : ℕ → EReal} {d : ℕ} {A B A' B' : FVec Ideal S64x8x1024 .f32} {p : Fin 64} {c : Fin 1024} (h0 : 0 < d) (h8 : d < 8)
    (H : Cert.Mix.Stands a b d (at8 A p c) (at8 B p c))
    (hA : ∀ q : Fin 8, A' (ix3 p q c) = if d ≤ q.val then A (ix3 p q c) * A (ix3 p ⟨(q.val + 8 - d) % 8, by omega⟩ c) else A (ix3 p q c))
    (hB : ∀ q : Fin 8, B' (ix3 p q c) = (if d ≤ q.val then A (ix3 p q c) * B (ix3 p ⟨(q.val + 8 - d) % 8, by omega⟩ c) else 0) + B (ix3 p q c)) :
    Cert.Mix.Stands a b (d + d) (at8 A' p c) (at8 B' p c) := by
  have E := H.double h0
  have eA : ∀ i < 8, at8 A' p c i = if d ≤ i then at8 A p c i * at8 A p c (i - d) else at8 A p c i := fun i hi => by
    unfold at8
    rw [dif_pos hi, dif_pos hi, dif_pos (show i - d < 8 by omega), hA ⟨i, hi⟩]
    by_cases h : d ≤ i
    · rw [if_pos h, if_pos h]
      exact congrArg (fun k : Fin 8 => A (ix3 p ⟨i, hi⟩ c) * A (ix3 p k c)) (Fin.ext (by show (i + 8 - d) % 8 = i - d; omega))
    · rw [if_neg h, if_neg h]
  have eB : ∀ i < 8, at8 B' p c i = (if d ≤ i then at8 A p c i * at8 B p c (i - d) else 0) + at8 B p c i := fun i hi => by
    unfold at8
    rw [dif_pos hi, dif_pos hi, dif_pos hi, dif_pos (show i - d < 8 by omega), hB ⟨i, hi⟩]
    by_cases h : d ≤ i
    · rw [if_pos h, if_pos h]
      exact congrArg (fun k : Fin 8 => A (ix3 p ⟨i, hi⟩ c) * B (ix3 p k c) + B (ix3 p ⟨i, hi⟩ c)) (Fin.ext (by show (i + 8 - d) % 8 = i - d; omega))
    · rw [if_neg h, if_neg h]
  exact ⟨fun i hi => by rw [eA i hi]; exact E.nonneg i hi, fun i hi => by rw [eA i hi]; exact E.ne_top i hi,
    fun i hi x => by rw [eA i hi, eB i hi]; exact E.eq i hi x⟩

/-- After the three rounds the pairs stand for all the group's steps so far. -/
theorem stands (w : BitVec 1) (x i r : FVec Ideal S512x1024 .f32) (a e : FVec Ideal S1x1024 .f32) (p : Fin 64) (c : Fin 1024) (α β : ℕ → EReal)
    (hα : ∀ q : Fin 8, k0_pay31 (F := Ideal) r a e (ix3 p q c) = α q.val) (hβ : ∀ q : Fin 8, drv w x i (k0_pay29 (F := Ideal) r a e) (ix3 p q c) = β q.val)
    (h0 : ∀ q < 8, 0 ≤ α q) (ht : ∀ q < 8, α q ≠ ⊤) (q : Fin 8) (y : EReal) :
    mult (F := Ideal) lanes (k0_pay33 (F := Ideal) lanes r a e) (k0_pay34 lanes) (ix3 p q c) * y
      + adds (F := Ideal) lanes (k0_pay33 (F := Ideal) lanes r a e) (k0_pay34 lanes) (k0_pay35 (F := Ideal) w x lanes i r a e) (ix3 p q c)
      = Cert.Mix.last α β (q.val + 1) q.val y := by
  have S0 : Cert.Mix.Stands α β 1 (at8 (k0_pay31 (F := Ideal) r a e) p c) (at8 (drv w x i (k0_pay29 (F := Ideal) r a e)) p c) := by
    have S := Cert.Mix.stands_one (b := β) h0 ht
    have eA : ∀ k < 8, at8 (k0_pay31 (F := Ideal) r a e) p c k = α k := fun k hk => by unfold at8; rw [dif_pos hk]; exact hα ⟨k, hk⟩
    have eB : ∀ k < 8, at8 (drv w x i (k0_pay29 (F := Ideal) r a e)) p c k = β k := fun k hk => by unfold at8; rw [dif_pos hk]; exact hβ ⟨k, hk⟩
    exact ⟨fun k hk => by rw [eA k hk]; exact S.nonneg k hk, fun k hk => by rw [eA k hk]; exact S.ne_top k hk,
      fun k hk y => by rw [eA k hk, eB k hk]; exact S.eq k hk y⟩
  have S1 := stands_round (by decide) (by decide) S0 (roundA1 _ p · c) (roundB1 _ _ p · c)
  have S2 := stands_round (by decide) (by decide) S1 (roundA2 _ p · c) (roundB2 _ _ p · c)
  have S3 := stands_round (by decide) (by decide) S2 (roundA4 _ p · c) (roundB4 _ _ p · c)
  rw [mult_eq, adds_eq, pay35_eq, pay33_eq]
  have E := S3.eq q.val q.isLt y
  rw [show min (1 + 1 + (1 + 1) + (1 + 1 + (1 + 1))) (q.val + 1) = q.val + 1 from by have := q.isLt; omega] at E
  rw [← E]
  unfold at8
  rw [dif_pos q.isLt, dif_pos q.isLt]

theorem row_first (w : BitVec 1) (n : ℕ) (hn : n < 512) (a b : EReal) :
    Scalar.select (IntOp.cmpi CmpIPredicate.eq (BitVec.ofNat 32 n) (Scalar.select w 0#32 4294967295#32)) a b = if w = 1#1 ∧ n = 0 then a else b := by
  have h : ∀ w : BitVec 1, ∀ n : Fin 512, IntOp.cmpi CmpIPredicate.eq (BitVec.ofNat 32 n.val) (Scalar.select w 0#32 4294967295#32)
      = if w = 1#1 ∧ n.val = 0 then 1#1 else 0#1 := by decide +kernel
  rw [h w ⟨n, hn⟩]
  by_cases hc : w = 1#1 ∧ n = 0
  · simp [hc, Scalar.select]
  · rw [if_neg hc, if_neg hc]
    simp [Scalar.select]

theorem drv_apply (w : BitVec 1) (x i L : FVec Ideal S512x1024 .f32) (p : Fin 64) (q : Fin 8) (c : Fin 1024)
    (hL : L (ix2 ⟨p.val * 8 + q.val, by omega⟩ c) ≤ 0) :
    drv w x i L (ix3 p q c) = (if w = 1#1 ∧ p.val * 8 + q.val = 0 then 1 else Ideal.sqrt (-(Ideal.exp (((2 : ℝ) : EReal) * L (ix2 ⟨p.val * 8 + q.val, by omega⟩ c)) - 1)))
      * i (ix2 ⟨p.val * 8 + q.val, by omega⟩ c) * x (ix2 ⟨p.val * 8 + q.val, by omega⟩ c) := by
  rw [← Cert.Mix.root_eq hL]
  rw [← row_first w (p.val * 8 + q.val) (by omega), ← zero_sub]
  pointwise [drv]

end Cert.Kernel2Ideal.Mix
end
-- ==== Proof.Kernel2Ideal.Groups.lean ====
/- The tile's 64 groups of eight rows: each group's states follow from the last state of the group before it. -/
module

public import proofs.«01_k».proof.Proof.Kernel2Ideal.Values
public import proofs.«01_k».proof.Proof.Mix.Model
public import Idealize.ShloMosaic.Lib.Pointwise
public import Idealize.ShloMosaic.Lib.Pipeline.Value

@[expose] public section

set_option maxRecDepth 65536

noncomputable section

namespace Cert.Kernel2Ideal.Mix

open Cert.Kernel2Ideal Cert.Kernel2Ideal.Gen
open Idealize.ShloMosaic

theorem slices_group (n : ℕ) : S64x8x1024.Slices ![n % 64, 0, 0] S1x8x1024 := by
  have h : ∀ n : Fin 64, S64x8x1024.Slices ![n.val, 0, 0] S1x8x1024 := by decide
  exact h ⟨n % 64, Nat.mod_lt _ (by decide)⟩

section
variable {F : FTy → Type} [FloatOps F]

/-- The state before a group, carried to each of its rows. -/
def carried (A : FVec F S64x8x1024 .f32) (n : ℕ) (h : FVec F S1x1024 .f32) : FVec F S8x1024 .f32 :=
  mulf (shapeCast S8x1024 (extractStridedSlice S1x8x1024 ![n % 64, 0, 0] A (slices_group n)) shapeCasts_S1x8x1024_S8x1024)
    (broadcastTo S8x1024 h broadcasts_S1x1024_S8x1024)

/-- One group's states, from the state before it. -/
def follow (A B : FVec F S64x8x1024 .f32) (n : ℕ) (h : FVec F S1x1024 .f32) : FVec F S8x1024 .f32 :=
  addf (carried A n h)
    (shapeCast S8x1024 (extractStridedSlice S1x8x1024 ![n % 64, 0, 0] B (slices_group n)) shapeCasts_S1x8x1024_S8x1024)

/-- The last of a group's states. -/
def bottom (v : FVec F S8x1024 .f32) : FVec F S1x1024 .f32 := extractStridedSlice S1x1024 ![7, 0] v slices_S8x1024_o7_0_S1x1024

/-- The states of group `n`. -/
def group (A B : FVec F S64x8x1024 .f32) (h : FVec F S1x1024 .f32) : ℕ → FVec F S8x1024 .f32
  | 0 => follow A B 0 h
  | n + 1 => follow A B (n + 1) (bottom (group A B h n))

variable (l : IVec S64x8x1024 32) (a1 : FVec F S64x8x1024 .f32) (g : IVec S64x8x1024 1) (b2 : FVec F S64x8x1024 .f32) (h : Vec F S1x1024 .f32)

theorem c5_eq : c5 l a1 g b2 h = bottom (group (mult l a1 g) (adds l a1 g b2) h 4) := rfl

theorem c12_eq : c12 l a1 g b2 h = carried (mult l a1 g) 12 (bottom (group (mult l a1 g) (adds l a1 g b2) h 11)) := by
  unfold c12
  rw [c5_eq]
  rfl

theorem c20_eq : c20 l a1 g b2 h = bottom (group (mult l a1 g) (adds l a1 g b2) h 19) := by
  unfold c20
  rw [c12_eq]
  rfl

theorem c27_eq : c27 l a1 g b2 h = carried (mult l a1 g) 27 (bottom (group (mult l a1 g) (adds l a1 g b2) h 26)) := by
  unfold c27
  rw [c20_eq]
  rfl

theorem c35_eq : c35 l a1 g b2 h = bottom (group (mult l a1 g) (adds l a1 g b2) h 34) := by
  unfold c35
  rw [c27_eq]
  rfl

theorem c42_eq : c42 l a1 g b2 h = carried (mult l a1 g) 42 (bottom (group (mult l a1 g) (adds l a1 g b2) h 41)) := by
  unfold c42
  rw [c35_eq]
  rfl

theorem c50_eq : c50 l a1 g b2 h = bottom (group (mult l a1 g) (adds l a1 g b2) h 49) := by
  unfold c50
  rw [c42_eq]
  rfl

theorem c57_eq : c57 l a1 g b2 h = carried (mult l a1 g) 57 (bottom (group (mult l a1 g) (adds l a1 g b2) h 56)) := by
  unfold c57
  rw [c50_eq]
  rfl

theorem concatenates_groups (f : Fin 64 → FVec F S8x1024 .f32) :
    Shape.Concatenates ((List.ofFn fun n : Fin 64 => (⟨S8x1024, f n⟩ : (s : Shape) × (s.Idx → F .f32))).map (·.1)) S512x1024 0 := by
  have e : (List.ofFn fun n : Fin 64 => (⟨S8x1024, f n⟩ : (s : Shape) × (s.Idx → F .f32))).map (·.1) = List.replicate 64 S8x1024 := by
    rw [List.map_ofFn]
    exact List.ofFn_const 64 S8x1024
  rw [e]
  decide

theorem states_eq : states l a1 g b2 h = concatenate S512x1024 0
    (List.ofFn fun n : Fin 64 => (⟨S8x1024, group (mult l a1 g) (adds l a1 g b2) h n.val⟩ : (s : Shape) × (s.Idx → F .f32)))
    (concatenates_groups fun n : Fin 64 => group (mult l a1 g) (adds l a1 g b2) h n.val) := by
  unfold states
  rw [c5_eq, c12_eq, c20_eq, c27_eq, c35_eq, c42_eq, c50_eq, c57_eq]
  rfl

theorem lastRow_apply (c : Fin 1024) : lastRow l a1 g b2 h (ix2 0 c) = group (mult l a1 g) (adds l a1 g b2) h 63 (ix2 7 c) := by
  unfold lastRow
  rw [c57_eq]
  show k0_pay112 (adds l a1 g b2) (mult l a1 g) (carried (mult l a1 g) 57 (bottom (group (mult l a1 g) (adds l a1 g b2) h 56))) (ix2 0 c) = _
  have e : k0_pay112 (adds l a1 g b2) (mult l a1 g) (carried (mult l a1 g) 57 (bottom (group (mult l a1 g) (adds l a1 g b2) h 56)))
    = shapeCast S1x1024 (bottom (group (mult l a1 g) (adds l a1 g b2) h 63)) shapeCasts_S1x1024_S1x1024 := rfl
  rw [e]
  generalize group (mult l a1 g) (adds l a1 g b2) h 63 = v
  pointwise [bottom]

theorem states_apply (r : Fin 512) (c : Fin 1024) :
    states l a1 g b2 h (ix2 r c) = group (mult l a1 g) (adds l a1 g b2) h (r.val / 8) (ix2 ⟨r.val % 8, by omega⟩ c) := by
  rw [states_eq]
  exact concatenate_ofFn_apply (s₁ := S8x1024) (t := S512x1024) 0 (fun n : Fin 64 => group (mult l a1 g) (adds l a1 g b2) h n.val) _ rfl 8 rfl (ix2 r c)
    ⟨r.val / 8, by omega⟩ rfl (ix2 ⟨r.val % 8, by omega⟩ c) rfl
    (fun b hb => by fin_cases b <;> first | exact absurd rfl hb | rfl)

end

/-! ## Over the extended reals -/

theorem follow_apply (A B : FVec Ideal S64x8x1024 .f32) (n : ℕ) (hn : n < 64) (h : FVec Ideal S1x1024 .f32) (q : Fin 8) (c : Fin 1024) :
    follow (F := Ideal) A B n h (ix2 q c) = A (ix3 ⟨n, hn⟩ q c) * h (ix2 0 c) + B (ix3 ⟨n, hn⟩ q c) := by
  have e : (⟨n % 64, Nat.mod_lt _ (by decide)⟩ : Fin 64) = ⟨n, hn⟩ := Fin.ext (Nat.mod_eq_of_lt hn)
  rw [← e]
  pointwise [follow, carried]

theorem bottom_apply (v : FVec Ideal S8x1024 .f32) (c : Fin 1024) : bottom (F := Ideal) v (ix2 0 c) = v (ix2 7 c) := by
  pointwise [bottom]

/-- The recurrence's values fill the groups, where each group's multipliers and addends stand for its steps. -/
theorem group_apply (A B : FVec Ideal S64x8x1024 .f32) (h : FVec Ideal S1x1024 .f32) (c : Fin 1024) (a b : ℕ → EReal) (h0 : EReal) (s : ℕ)
    (hh : h (ix2 0 c) = Cert.Mix.lin a b h0 s)
    (H : ∀ (n : ℕ) (hn : n < 64) (q : Fin 8) (x : EReal), A (ix3 ⟨n, hn⟩ q c) * x + B (ix3 ⟨n, hn⟩ q c)
      = Cert.Mix.last (fun i => a (s + n * 8 + i)) (fun i => b (s + n * 8 + i)) (q.val + 1) q.val x)
    (n : ℕ) (hn : n < 64) (q : Fin 8) : group (F := Ideal) A B h n (ix2 q c) = Cert.Mix.lin a b h0 (s + n * 8 + q.val + 1) := by
  induction n generalizing q with
  | zero =>
    show follow A B 0 h (ix2 q c) = _
    rw [follow_apply A B 0 hn, H 0 hn, hh, Cert.Mix.lin_add]
    simp only [Nat.zero_mul, Nat.add_zero]
  | succ n ih =>
    show follow A B (n + 1) (bottom (group A B h n)) (ix2 q c) = _
    rw [follow_apply A B (n + 1) hn, H (n + 1) hn, bottom_apply, ih (by omega) 7, Cert.Mix.lin_add a b h0 (s + (n + 1) * 8) q.val]
    rw [show s + n * 8 + ((7 : Fin 8) : ℕ) + 1 = s + (n + 1) * 8 from by show s + n * 8 + 7 + 1 = _; omega]

end Cert.Kernel2Ideal.Mix
end
-- ==== Proof.Kernel2Ideal.Tile.lean ====
/- One grid point's values over the extended reals, from blocks that hold the arguments' elements: the projections, the
   convolution, the gates and the recurrence's states of one tile of 512 tokens. -/
module

public import proofs.«01_k».proof.Proof.Kernel2Ideal.Levels
public import proofs.«01_k».proof.Proof.Kernel2Ideal.Groups
public import Idealize.ShloMosaic.Lib.Pipeline.ValueKit

@[expose] public section

set_option maxRecDepth 16384

noncomputable section

namespace Cert.Kernel2Ideal.Mix

open Cert.Kernel2Ideal Cert.Kernel2Ideal.Gen
open Idealize.ShloMosaic Cert.Mlp Cert.Mix

/-- A block of the paired block-diagonal weights: four blocks of one gate beside four of the other. -/
def paired (wa wx : Cube 16 64 64) (g : Fin 4) (k : Fin 256) (j : Fin 512) : EReal :=
  if h : j.val < 256 then wa (ix3 ⟨g.val * 4 + k.val / 64, by omega⟩ ⟨k.val % 64, by omega⟩ ⟨j.val % 64, by omega⟩) * (if k.val / 64 = j.val / 64 then 1 else 0)
  else wx (ix3 ⟨g.val * 4 + k.val / 64, by omega⟩ ⟨k.val % 64, by omega⟩ ⟨(j.val - 256) % 64, by omega⟩) * (if k.val / 64 = (j.val - 256) / 64 then 1 else 0)

/-- Blocks that hold the arguments' elements of one tile. -/
structure Fits (A : Args) (b : Fin 2) (n : Fin 16) (X : Blocks Ideal) : Prop where
  h0 : ∀ (r : Fin 512) (k : Fin 2048), X.x0 (ix3 0 r k) = A.x (ix3 b ⟨n.val * 512 + r.val, by omega⟩ k)
  h1 : ∀ k : Fin 2048, X.x1 (ix2 0 k) = A.gain (ix1 k)
  h2 : ∀ (d : Fin 1024) (k : Fin 2048), X.x2 (ix2 d k) = A.w (ix2 k ⟨d.val, by omega⟩)
  h3 : ∀ (d : Fin 1024) (k : Fin 2048), X.x3 (ix2 d k) = A.w (ix2 k ⟨2048 + d.val, by omega⟩)
  h4 : ∀ (k : Fin 2048) (d : Fin 1024), X.x4 (ix2 k d) = A.w (ix2 k ⟨1024 + d.val, by omega⟩)
  h5 : ∀ (k d : Fin 2048), X.x5 (ix2 k d) = A.w (ix2 k ⟨3088 + d.val, by omega⟩)
  h9 : ∀ (k : Fin 4) (d : Fin 1024), X.x9 (ix2 k d) = A.cw (ix2 k d)
  h10 : ∀ d : Fin 1024, X.x10 (ix2 0 d) = A.cb (ix1 d)
  h11 : ∀ (g : Fin 4) (k : Fin 256) (j : Fin 512), X.x11 (ix3 g k j) = paired A.wa A.wx g k j
  h12 : ∀ d : Fin 1024, X.x12 (ix2 0 d) = A.ba (ix1 d)
  h13 : ∀ d : Fin 1024, X.x13 (ix2 0 d) = A.bx (ix1 d)
  h14 : ∀ d : Fin 1024, X.x14 (ix2 0 d) = A.lam (ix1 d)

/-- The token of a tile's row. -/
abbrev tok (n : Fin 16) (r : Fin 512) : Fin 8192 := ⟨n.val * 512 + r.val, by omega⟩

/-! ## Parts of a block -/

theorem wideA_apply (x : Vec Ideal S2048x2048 .bf16) (k : Fin 2048) (l : Fin 1024) : View.ld x wideA (ix2 k l) = x (ix2 k ⟨l.val, by omega⟩) :=
  View.ld_unit_apply_of x _ _ _ _ _ (fun a => by fin_cases a <;> simp [ix2])

theorem wideB_apply (x : Vec Ideal S2048x2048 .bf16) (k : Fin 2048) (l : Fin 1024) : View.ld x wideB (ix2 k l) = x (ix2 k ⟨1024 + l.val, by omega⟩) :=
  View.ld_unit_apply_of x _ _ _ _ _ (fun a => by fin_cases a <;> simp [ix2])

theorem tap0_apply (x : Vec Ideal S4x1024 .f32) (l : Fin 1024) : View.ld x tap0 (ix2 0 l) = x (ix2 0 l) :=
  View.ld_unit_apply_of x _ _ _ _ _ (fun a => by fin_cases a <;> simp [ix2])
theorem tap1_apply (x : Vec Ideal S4x1024 .f32) (l : Fin 1024) : View.ld x tap1 (ix2 0 l) = x (ix2 1 l) :=
  View.ld_unit_apply_of x _ _ _ _ _ (fun a => by fin_cases a <;> simp [ix2])
theorem tap2_apply (x : Vec Ideal S4x1024 .f32) (l : Fin 1024) : View.ld x tap2 (ix2 0 l) = x (ix2 2 l) :=
  View.ld_unit_apply_of x _ _ _ _ _ (fun a => by fin_cases a <;> simp [ix2])
theorem tap3_apply (x : Vec Ideal S4x1024 .f32) (l : Fin 1024) : View.ld x tap3 (ix2 0 l) = x (ix2 3 l) :=
  View.ld_unit_apply_of x _ _ _ _ _ (fun a => by fin_cases a <;> simp [ix2])

theorem diag0_apply (x : Vec Ideal S4x256x512 .bf16) (k : Fin 256) (j : Fin 512) : View.ld x diag0 (ix3 0 k j) = x (ix3 0 k j) :=
  View.ld_unit_apply_of x _ _ _ _ _ (fun a => by fin_cases a <;> simp [ix3])
theorem diag1_apply (x : Vec Ideal S4x256x512 .bf16) (k : Fin 256) (j : Fin 512) : View.ld x diag1 (ix3 0 k j) = x (ix3 1 k j) :=
  View.ld_unit_apply_of x _ _ _ _ _ (fun a => by fin_cases a <;> simp [ix3])
theorem diag2_apply (x : Vec Ideal S4x256x512 .bf16) (k : Fin 256) (j : Fin 512) : View.ld x diag2 (ix3 0 k j) = x (ix3 2 k j) :=
  View.ld_unit_apply_of x _ _ _ _ _ (fun a => by fin_cases a <;> simp [ix3])
theorem diag3_apply (x : Vec Ideal S4x256x512 .bf16) (k : Fin 256) (j : Fin 512) : View.ld x diag3 (ix3 0 k j) = x (ix3 3 k j) :=
  View.ld_unit_apply_of x _ _ _ _ _ (fun a => by fin_cases a <;> simp [ix3])

section
variable {A : Args} {b : Fin 2} {n : Fin 16} {X : Blocks Ideal} (hX : Fits A b n X)
include hX

/-! ## The projections -/

theorem rows_apply (r : Fin 512) (k : Fin 2048) : rows (F := Ideal) X (ix2 r k) = scaled (fun k => A.x (ix3 b (tok n r) k)) (A.gain (ix1 k)) k := by
  unfold rows
  rw [pay6_apply, hX.h1]
  simp only [hX.h0]

theorem feed_apply (r : Fin 512) (l : Fin 1024) : feed (F := Ideal) X (ix2 r l) = proj A b (tok n r) ⟨3088 + l.val, by omega⟩ := by
  unfold feed
  rw [pay10_apply]
  exact Finset.sum_congr rfl fun k _ => by rw [rows_apply hX, wideA_apply, hX.h5]

theorem branch_apply (r : Fin 512) (l : Fin 1024) : branch (F := Ideal) X (ix2 r l) = proj A b (tok n r) ⟨4112 + l.val, by omega⟩ := by
  unfold branch
  rw [pay11_apply]
  refine Finset.sum_congr rfl fun k _ => ?_
  rw [rows_apply hX, wideB_apply, hX.h5]
  exact congrArg (fun j : Fin 5136 => scaled (fun k => A.x (ix3 b (tok n r) k)) (A.gain (ix1 k)) k * A.w (ix2 k j)) (Fin.ext (by show 3088 + (1024 + l.val) = 4112 + l.val; omega))

theorem out0_apply (d : Fin 1024) (r : Fin 512) : out0 (F := Ideal) X (ix3 0 d r) = proj A b (tok n r) ⟨d.val, by omega⟩ * Ideal.ofBits .f32 0x3E38AA3B#32 := by
  unfold out0
  rw [pay116_apply]
  refine congrArg (· * Ideal.ofBits .f32 0x3E38AA3B#32) ?_
  exact Finset.sum_congr rfl fun k _ => by rw [rows_apply hX, hX.h2, mul_comm]

theorem out1_apply (r : Fin 512) (l : Fin 1024) : out1 (F := Ideal) X (ix3 0 r l) = proj A b (tok n r) ⟨1024 + l.val, by omega⟩ := by
  unfold out1 keyRows
  rw [pay1_apply]
  exact Finset.sum_congr rfl fun k _ => by rw [rows_apply hX, hX.h4]

theorem out2_apply (d : Fin 1024) (r : Fin 512) : out2 (F := Ideal) X (ix3 0 d r) = proj A b (tok n r) ⟨2048 + d.val, by omega⟩ := by
  unfold out2
  rw [pay122_apply]
  exact Finset.sum_congr rfl fun k _ => by rw [rows_apply hX, hX.h3, mul_comm]

theorem next1_apply (q : Fin 8) (l : Fin 1024) :
    next1 (F := Ideal) X (ix2 q l) = proj A b (tok n ⟨504 + q.val, by omega⟩) ⟨3088 + l.val, by omega⟩ := by
  unfold next1
  rw [pay14_apply, feed_apply hX]

end

/-! ## The convolution -/

/-- The carried rows before a tile: the recurrence's input at the eight tokens before it, or zeroes. -/
def Tail (A : Args) (b : Fin 2) (n : Fin 16) (u : Vec Ideal S8x1024 .f32) : Prop :=
  ∀ (q : Fin 8) (l : Fin 1024), u (ix2 q l) = if h : 0 < n.val then proj A b ⟨n.val * 512 - 8 + q.val, by omega⟩ ⟨3088 + l.val, by omega⟩ else 0

section
variable {A : Args} {b : Fin 2} {n : Fin 16} {X : Blocks Ideal} (hX : Fits A b n X) {u : Vec Ideal S8x1024 .f32} (hu : Tail A b n u)
include hX hu

theorem up_apply (k : Nat) (hk : k ≤ 8) (r : Fin 512) (l : Fin 1024) :
    up u (feed (F := Ideal) X) k hk r l = Cert.Mix.back k (fun s => proj A b s ⟨3088 + l.val, by omega⟩) (tok n r) := by
  unfold up Cert.Mix.back
  by_cases h : k ≤ r.val
  · rw [dif_pos h, if_pos (show k ≤ n.val * 512 + r.val by omega), feed_apply hX]
    exact congrArg (fun s : Fin 8192 => proj A b s ⟨3088 + l.val, by omega⟩) (Fin.ext (by show n.val * 512 + (r.val - k) = n.val * 512 + r.val - k; omega))
  · rw [dif_neg h, hu]
    by_cases h0 : 0 < n.val
    · rw [dif_pos h0, if_pos (show k ≤ n.val * 512 + r.val by omega)]
      exact congrArg (fun s : Fin 8192 => proj A b s ⟨3088 + l.val, by omega⟩) (Fin.ext (by show n.val * 512 - 8 + (8 + r.val - k) = n.val * 512 + r.val - k; omega))
    · rw [dif_neg h0, if_neg (show ¬ k ≤ n.val * 512 + r.val by omega)]

theorem conv_eq (r : Fin 512) (l : Fin 1024) : conv (F := Ideal) X u (ix2 r l) = fed A b (tok n r) l := by
  unfold conv near grouped
  rw [conv_apply]
  show _ + _ * feed (F := Ideal) X (ix2 r l) + _ * up u (feed (F := Ideal) X) 1 _ r l + _ * up u (feed (F := Ideal) X) 2 _ r l + _ * up u (feed (F := Ideal) X) 3 _ r l = _
  rw [up_apply hX hu, up_apply hX hu, up_apply hX hu, feed_apply hX, tap0_apply, tap1_apply, tap2_apply, tap3_apply, hX.h10, hX.h9, hX.h9, hX.h9, hX.h9]
  rfl

theorem convB_eq (r : Fin 512) (l : Fin 1024) : convB (F := Ideal) X u (ix2 r l) = fed A b (tok n r) l := conv_eq hX hu r l

end

/-! ## The gates -/

/-- A row of 256 against a column of a block-diagonal matrix of 64 by 64 blocks. -/
theorem block_sum (f w : Fin 256 → EReal) (m : ℕ) (hm : m < 4) :
    (∑ k : Fin 256, f k * (w k * (if k.val / 64 = m then 1 else 0))) = ∑ k : Fin 64, f ⟨m * 64 + k.val, by omega⟩ * w ⟨m * 64 + k.val, by omega⟩ := by
  have e : (∑ k : Fin 256, f k * (w k * (if k.val / 64 = m then 1 else 0)))
      = ∑ s : Fin 4, ∑ k : Fin 64, if s.val = m then f ⟨s.val * 64 + k.val, by omega⟩ * w ⟨s.val * 64 + k.val, by omega⟩ else 0 := by
    symm
    refine Fin.sum_mul_add_congr fun s k hl => ?_
    have hd : (s.val * 64 + k.val) / 64 = s.val := by omega
    simp only [hd]
    by_cases h : s.val = m
    · simp [h]
    · simp [h]
  rw [e, Finset.sum_eq_single (⟨m, hm⟩ : Fin 4)]
  · simp
  · intro s _ hs
    have : ¬ s.val = m := fun h => hs (Fin.ext h)
    simp [this]
  · intro h
    exact absurd (Finset.mem_univ _) h

theorem congr_ix3 {a b c : ℕ} (f : Cube a b c) {i i' : Fin a} {j j' : Fin b} {k k' : Fin c} (hi : i = i') (hj : j = j') (hk : k = k') :
    f (ix3 i j k) = f (ix3 i' j' k') := by
  subst hi hj hk
  rfl

/-- The block of the paired weights under one gate's channel, summed: the gate's own block. -/
theorem paired_left (v : Fin 1024 → EReal) (wa wx : Cube 16 64 64) (g : Fin 4) (c : Fin 1024) (hc : c.val / 256 = g.val) (j : Fin 512) (hj : j.val = c.val % 256) :
    (∑ k : Fin 256, v ⟨g.val * 256 + k.val, by omega⟩ * paired wa wx g k j)
      = ∑ k : Fin 64, v ⟨c.val / 64 * 64 + k.val, by omega⟩ * wa (ix3 ⟨c.val / 64, by omega⟩ k ⟨c.val % 64, by omega⟩) := by
  have e : ∀ k : Fin 256, paired wa wx g k j = wa (ix3 ⟨g.val * 4 + k.val / 64, by omega⟩ ⟨k.val % 64, by omega⟩ ⟨j.val % 64, by omega⟩)
      * (if k.val / 64 = j.val / 64 then 1 else 0) := fun k => dif_pos (by omega)
  simp only [e]
  rw [block_sum (fun k => v ⟨g.val * 256 + k.val, by omega⟩) (fun k => wa (ix3 ⟨g.val * 4 + k.val / 64, by omega⟩ ⟨k.val % 64, by omega⟩ ⟨j.val % 64, by omega⟩)) (j.val / 64) (by omega)]
  refine Finset.sum_congr rfl fun k _ => ?_
  refine congrArg₂ (fun a b : EReal => a * b) (congrArg v (Fin.ext ?_)) (congr_ix3 wa ?_ ?_ ?_)
  · show g.val * 256 + (j.val / 64 * 64 + k.val) = c.val / 64 * 64 + k.val
    omega
  · exact Fin.ext (by show g.val * 4 + (j.val / 64 * 64 + k.val) / 64 = c.val / 64; omega)
  · exact Fin.ext (by show (j.val / 64 * 64 + k.val) % 64 = k.val; omega)
  · exact Fin.ext (by show j.val % 64 = c.val % 64; omega)

theorem paired_right (v : Fin 1024 → EReal) (wa wx : Cube 16 64 64) (g : Fin 4) (c : Fin 1024) (hc : c.val / 256 = g.val) (j : Fin 512) (hj : j.val = 256 + c.val % 256) :
    (∑ k : Fin 256, v ⟨g.val * 256 + k.val, by omega⟩ * paired wa wx g k j)
      = ∑ k : Fin 64, v ⟨c.val / 64 * 64 + k.val, by omega⟩ * wx (ix3 ⟨c.val / 64, by omega⟩ k ⟨c.val % 64, by omega⟩) := by
  have e : ∀ k : Fin 256, paired wa wx g k j = wx (ix3 ⟨g.val * 4 + k.val / 64, by omega⟩ ⟨k.val % 64, by omega⟩ ⟨(j.val - 256) % 64, by omega⟩)
      * (if k.val / 64 = (j.val - 256) / 64 then 1 else 0) := fun k => dif_neg (by omega)
  simp only [e]
  rw [block_sum (fun k => v ⟨g.val * 256 + k.val, by omega⟩) (fun k => wx (ix3 ⟨g.val * 4 + k.val / 64, by omega⟩ ⟨k.val % 64, by omega⟩ ⟨(j.val - 256) % 64, by omega⟩)) ((j.val - 256) / 64) (by omega)]
  refine Finset.sum_congr rfl fun k _ => ?_
  refine congrArg₂ (fun a b : EReal => a * b) (congrArg v (Fin.ext ?_)) (congr_ix3 wx ?_ ?_ ?_)
  · show g.val * 256 + ((j.val - 256) / 64 * 64 + k.val) = c.val / 64 * 64 + k.val
    omega
  · exact Fin.ext (by show g.val * 4 + ((j.val - 256) / 64 * 64 + k.val) / 64 = c.val / 64; omega)
  · exact Fin.ext (by show ((j.val - 256) / 64 * 64 + k.val) % 64 = k.val; omega)
  · exact Fin.ext (by show (j.val - 256) % 64 = c.val % 64; omega)

section
variable {A : Args} {b : Fin 2} {n : Fin 16} {X : Blocks Ideal} (hX : Fits A b n X) {u : Vec Ideal S8x1024 .f32} (hu : Tail A b n u)
include hX hu

theorem gateI_apply (r : Fin 512) (c : Fin 1024) : gateI (F := Ideal) X u (ix2 r c) = gate (fed A b (tok n r)) A.wx (A.bx (ix1 c)) c := by
  unfold gateI gate
  rw [pay24_apply, hX.h13]
  refine congrArg (fun z : EReal => Ideal.logistic (z + A.bx (ix1 c))) ?_
  by_cases h1 : c.val < 256
  · rw [dif_pos h1, pay19_apply, ← paired_right (fed A b (tok n r)) A.wa A.wx 0 c (by show _ = 0; omega) ⟨256 + c.val, by omega⟩ (by show 256 + c.val = _; omega)]
    refine Finset.sum_congr rfl fun k _ => ?_
    rw [diag0_apply, hX.h11]
    refine congrArg (fun z : EReal => z * _) ((convB_eq hX hu r _).trans (congrArg _ (Fin.ext ?_)))
    show k.val = 0 * 256 + k.val
    omega
  rw [dif_neg h1]
  by_cases h2 : c.val - 256 < 256
  · rw [dif_pos h2, pay21_apply, ← paired_right (fed A b (tok n r)) A.wa A.wx 1 c (by show _ = 1; omega) ⟨256 + (c.val - 256), by omega⟩ (by show 256 + (c.val - 256) = _; omega)]
    refine Finset.sum_congr rfl fun k _ => ?_
    rw [pay20_apply, diag1_apply, hX.h11]
    exact congrArg (fun z : EReal => z * _) ((convB_eq hX hu r _).trans (congrArg _ (Fin.ext (by show 256 + k.val = 1 * 256 + k.val; omega))))
  rw [dif_neg h2]
  by_cases h3 : c.val - 256 - 256 < 256
  · rw [dif_pos h3, pay22_apply, ← paired_right (fed A b (tok n r)) A.wa A.wx 2 c (by show _ = 2; omega) ⟨256 + (c.val - 256 - 256), by omega⟩ (by show 256 + (c.val - 256 - 256) = _; omega)]
    refine Finset.sum_congr rfl fun k _ => ?_
    rw [diag2_apply, hX.h11]
    exact congrArg (fun z : EReal => z * _) ((convB_eq hX hu r _).trans (congrArg _ (Fin.ext (by show 512 + k.val = 2 * 256 + k.val; omega))))
  · rw [dif_neg h3, pay23_apply, ← paired_right (fed A b (tok n r)) A.wa A.wx 3 c (by show _ = 3; omega) ⟨256 + (c.val - 256 - 256 - 256), by omega⟩ (by show 256 + (c.val - 256 - 256 - 256) = _; omega)]
    refine Finset.sum_congr rfl fun k _ => ?_
    rw [diag3_apply, hX.h11]
    exact congrArg (fun z : EReal => z * _) ((convB_eq hX hu r _).trans (congrArg _ (Fin.ext (by show 768 + k.val = 3 * 256 + k.val; omega))))

theorem gateR_apply (r : Fin 512) (c : Fin 1024) :
    gateR (F := Ideal) X u (ix2 r c) = Ideal.ofBits .f32 0xC1000000#32 * gate (fed A b (tok n r)) A.wa (A.ba (ix1 c)) c := by
  unfold gateR gate
  rw [pay25_apply, hX.h12]
  refine congrArg (fun z : EReal => Ideal.ofBits .f32 0xC1000000#32 * Ideal.logistic (z + A.ba (ix1 c))) ?_
  by_cases h1 : c.val < 256
  · rw [dif_pos h1, pay18_apply, ← paired_left (fed A b (tok n r)) A.wa A.wx 0 c (by show _ = 0; omega) ⟨c.val, by omega⟩ (by show c.val = _; omega)]
    refine Finset.sum_congr rfl fun k _ => ?_
    rw [diag0_apply, hX.h11]
    exact congrArg (fun z : EReal => z * _) ((convB_eq hX hu r _).trans (congrArg _ (Fin.ext (by show k.val = 0 * 256 + k.val; omega))))
  rw [dif_neg h1]
  by_cases h2 : c.val - 256 < 256
  · rw [dif_pos h2, pay21_apply, ← paired_left (fed A b (tok n r)) A.wa A.wx 1 c (by show _ = 1; omega) ⟨c.val - 256, by omega⟩ (by show c.val - 256 = _; omega)]
    refine Finset.sum_congr rfl fun k _ => ?_
    rw [pay20_apply, diag1_apply, hX.h11]
    exact congrArg (fun z : EReal => z * _) ((convB_eq hX hu r _).trans (congrArg _ (Fin.ext (by show 256 + k.val = 1 * 256 + k.val; omega))))
  rw [dif_neg h2]
  by_cases h3 : c.val - 256 - 256 < 256
  · rw [dif_pos h3, pay22_apply, ← paired_left (fed A b (tok n r)) A.wa A.wx 2 c (by show _ = 2; omega) ⟨c.val - 256 - 256, by omega⟩ (by show c.val - 256 - 256 = _; omega)]
    refine Finset.sum_congr rfl fun k _ => ?_
    rw [diag2_apply, hX.h11]
    exact congrArg (fun z : EReal => z * _) ((convB_eq hX hu r _).trans (congrArg _ (Fin.ext (by show 512 + k.val = 2 * 256 + k.val; omega))))
  · rw [dif_neg h3, pay23_apply, ← paired_left (fed A b (tok n r)) A.wa A.wx 3 c (by show _ = 3; omega) ⟨c.val - 256 - 256 - 256, by omega⟩ (by show c.val - 256 - 256 - 256 = _; omega)]
    refine Finset.sum_congr rfl fun k _ => ?_
    rw [diag3_apply, hX.h11]
    exact congrArg (fun z : EReal => z * _) ((convB_eq hX hu r _).trans (congrArg _ (Fin.ext (by show 768 + k.val = 3 * 256 + k.val; omega))))

/-! ## The recurrence -/

theorem rate_apply (r : Fin 512) (c : Fin 1024) :
    k0_pay29 (F := Ideal) (gateR X u) (k0_pay27 X.x14) (k0_pay28 X.x14) (ix2 r c) = rate A b (tok n r) c := by
  rw [pay29_apply, gateR_apply hX hu, pay27_apply, pay28_apply, hX.h14]
  unfold rate softplus
  simp only [zero_sub]

theorem decay_apply (p : Fin 64) (q : Fin 8) (c : Fin 1024) :
    k0_pay31 (F := Ideal) (gateR X u) (k0_pay27 X.x14) (k0_pay28 X.x14) (ix3 p q c) = decay A b (tok n ⟨p.val * 8 + q.val, by omega⟩) c := by
  rw [pay31_apply, rate_apply hX hu]
  rfl

variable {w : BitVec 1} (hw : w = 1#1 ↔ n.val = 0)
include hw

theorem drive_apply (p : Fin 64) (q : Fin 8) (c : Fin 1024) :
    drv w (conv (F := Ideal) X u) (gateI X u) (k0_pay29 (F := Ideal) (gateR X u) (k0_pay27 X.x14) (k0_pay28 X.x14)) (ix3 p q c)
      = drive A b (tok n ⟨p.val * 8 + q.val, by omega⟩) c := by
  have hL := rate_apply hX hu ⟨p.val * 8 + q.val, by omega⟩ c
  rw [drv_apply w _ _ _ p q c (by rw [hL]; exact rate_le A b _ c), hL, gateI_apply hX hu, conv_eq hX hu]
  unfold drive amount
  have e : (w = 1#1 ∧ p.val * 8 + q.val = 0) ↔ n.val * 512 + (p.val * 8 + q.val) = 0 := by rw [hw]; omega
  simp only [e]

variable {h : Vec Ideal S1x1024 .f32} (hh : ∀ c : Fin 1024, h (ix2 0 c) = state A b c (n.val * 512))
include hh

theorem groups_apply (k : ℕ) (hk : k < 64) (q : Fin 8) (c : Fin 1024) :
    group (F := Ideal) (mult lanes (mult1 X u) (k0_pay34 lanes)) (adds lanes (mult1 X u) (k0_pay34 lanes) (adds2 X w u)) h k (ix2 q c)
      = state A b c (n.val * 512 + k * 8 + q.val + 1) := by
  refine group_apply _ _ h c (ext fun s => decay A b s c) (ext fun s => drive A b s c) 0 (n.val * 512) (hh c) (fun k hk q y => ?_) k hk q
  have ed : ∀ q : Fin 8, n.val * 512 + k * 8 + q.val < 8192 := fun q => by omega
  refine stands w (conv (F := Ideal) X u) (gateI X u) (gateR X u) (k0_pay27 X.x14) (k0_pay28 X.x14) ⟨k, hk⟩ c _ _ (fun q => ?_) (fun q => ?_)
    (fun q hq => ?_) (fun q hq => ?_) q y
  · rw [decay_apply hX hu]
    unfold ext
    rw [dif_pos (ed q)]
    exact congrArg (fun s => decay A b s c) (Fin.ext (by show n.val * 512 + (k * 8 + q.val) = n.val * 512 + k * 8 + q.val; omega))
  · rw [drive_apply hX hu hw]
    unfold ext
    rw [dif_pos (ed q)]
    exact congrArg (fun s => drive A b s c) (Fin.ext (by show n.val * 512 + (k * 8 + q.val) = n.val * 512 + k * 8 + q.val; omega))
  · unfold ext
    rw [dif_pos (ed ⟨q, hq⟩)]
    exact decay_nonneg A b _ c
  · unfold ext
    rw [dif_pos (ed ⟨q, hq⟩)]
    exact decay_ne_top A b _ c

theorem out4_apply (r : Fin 512) (c : Fin 1024) :
    out4 (F := Ideal) X w u h (ix3 0 r c) = state A b c ((tok n r).val + 1) * gelu (proj A b (tok n r) ⟨4112 + c.val, by omega⟩) := by
  unfold out4
  rw [pay115_apply, states_apply, groups_apply hX hu hw hh (r.val / 8) (by omega), branch_apply hX]
  have e : n.val * 512 + r.val / 8 * 8 + r.val % 8 + 1 = (tok n r).val + 1 := by show _ = n.val * 512 + r.val + 1; omega
  simp only [e]

theorem next2_apply (c : Fin 1024) : next2 (F := Ideal) X w u h (ix2 0 c) = state A b c ((n.val + 1) * 512) := by
  unfold next2
  rw [lastRow_apply, groups_apply hX hu hw hh 63 (by decide)]
  exact congrArg (state A b c) (by show n.val * 512 + 63 * 8 + 7 + 1 = _; omega)

end

end Cert.Kernel2Ideal.Mix
end
-- ==== Proof.Kernel2Ideal.Reads.lean ====
/- The blocks the body reads at a grid point, as elements of the arguments. -/
module

public import proofs.«01_k».proof.Proof.Gen.Kernel2Ideal.Frame.Runs
public import proofs.«01_k».proof.Proof.Kernel2Ideal.Tile
public import Idealize.ShloMosaic.Lib.StableHlo.RunRead

@[expose] public section

set_option maxRecDepth 16384

noncomputable section

namespace Cert.Kernel2Ideal.Mix

open Cert.Kernel2Ideal Cert.Kernel2Ideal.Gen
open Idealize.ShloMosaic Idealize.ShloMosaic.TcCoe Idealize.ShloMosaic.Tactic
open Cert.Mlp Cert.Mix

variable (m : (ℓ : Loc nD τ sig) → Buf (Elt Ideal) ℓ)

/-! ## The paired block-diagonal weights, as the host prepares them -/

def eye : FVec Ideal S4x4 .f32 :=
  uitofp .f32 (cmpi .eq (addi (iotaInDim S4x4 32 0) (broadcastInDim S4x4 ![] bcast_S_S4x4 (constantI S_ 32 0#32))) (iotaInDim S4x4 32 1))

def spread (w : FVec Ideal S16x64x64 .f32) : FVec Ideal S4x256x256 .f32 :=
  shapeCast S4x256x256 (mulf (broadcastInDim S4x4x64x4x64 ![0, 1, 2, 3, 4] bcast_S4x4x64x1x64_S4x4x64x4x64_0_1_2_3_4
      (broadcastInDim S4x4x64x1x64 ![0, 1, 2, 4] bcast_S4x4x64x64_S4x4x64x1x64_0_1_2_4 (shapeCast S4x4x64x64 w shapeCasts_S16x64x64_S4x4x64x64)))
    (broadcastInDim S4x4x64x4x64 ![0, 1, 2, 3, 4] bcast_S1x4x1x4x1_S4x4x64x4x64_0_1_2_3_4 (broadcastInDim S1x4x1x4x1 ![1, 3] bcast_S4x4_S1x4x1x4x1_1_3 eye)))
    shapeCasts_S4x4x64x4x64_S4x256x256

def pairedHost (wa wx : FVec Ideal S16x64x64 .f32) : FVec Ideal S4x256x512 .bf16 :=
  truncf .bf16 (concatenate S4x256x512 2 [⟨S4x256x256, spread wa⟩, ⟨S4x256x256, spread wx⟩] concatenates_S4x256x256_S4x256x256_S4x256x512_d2) bitsLt_bf16_f32

theorem host_paired (c : Dev nD) : V m c main_v31 = pairedHost (m ((c.tc : Thread nD τ).loc main_arg6)) (m ((c.tc : Thread nD τ).loc main_arg8)) := by
  unfold V
  after_reads_simp
  rfl

theorem eye_apply (a b : Fin 4) : eye (ix2 a b) = if a.val = b.val then 1 else 0 := by
  have h : ∀ a b : Fin 4, IntOp.cmpi CmpIPredicate.eq (BitVec.ofNat 32 a.val + 0#32) (BitVec.ofNat 32 b.val) = if a.val = b.val then 1#1 else 0#1 := by decide
  pointwise [eye]
  refine (congrArg _ (h a b)).trans ?_
  split <;> simp [FloatOps.uitofp]

theorem spread_apply (w : FVec Ideal S16x64x64 .f32) (g : Fin 4) (k j : Fin 256) : spread w (ix3 g k j)
    = w (ix3 ⟨g.val * 4 + k.val / 64, by omega⟩ ⟨k.val % 64, by omega⟩ ⟨j.val % 64, by omega⟩) * (if k.val / 64 = j.val / 64 then 1 else 0) := by
  have e := eye_apply ⟨k.val / 64, by omega⟩ ⟨j.val / 64, by omega⟩
  rw [← e]
  unfold spread
  generalize eye = z
  pointwise []

theorem pairedHost_apply (wa wx : FVec Ideal S16x64x64 .f32) (g : Fin 4) (k : Fin 256) (j : Fin 512) :
    pairedHost wa wx (ix3 g k j) = paired wa wx g k j := by
  have e : pairedHost wa wx (ix3 g k j) = if h : j.val < 256 then spread wa (ix3 g k ⟨j.val, h⟩) else spread wx (ix3 g k ⟨j.val - 256, by omega⟩) := by
    unfold pairedHost
    generalize spread wa = p
    generalize spread wx = q
    pointwise []
  rw [e]
  unfold paired
  split
  · exact spread_apply wa g k _
  · exact spread_apply wx g k _

/-- The arguments' contents. -/
def args (c : Dev nD) : Args where
  x := m ((c.tc : Thread nD τ).loc main_arg0)
  gain := m ((c.tc : Thread nD τ).loc main_arg1)
  w := m ((c.tc : Thread nD τ).loc main_arg2)
  cw := m ((c.tc : Thread nD τ).loc main_arg4)
  cb := m ((c.tc : Thread nD τ).loc main_arg5)
  wa := m ((c.tc : Thread nD τ).loc main_arg6)
  ba := m ((c.tc : Thread nD τ).loc main_arg7)
  wx := m ((c.tc : Thread nD τ).loc main_arg8)
  bx := m ((c.tc : Thread nD τ).loc main_arg9)
  lam := m ((c.tc : Thread nD τ).loc main_arg10)

/-- The block each window stages at a grid point. -/
theorem idx : ∀ t : Fin cfg0.N,
    ((cfg0.win 0).index t 0 = t.val / 16 ∧ (cfg0.win 0).index t 1 = t.val % 16 ∧ (cfg0.win 0).index t 2 = 0)
    ∧ ((cfg0.win 1).index t 0 = 0 ∧ (cfg0.win 1).index t 1 = 0)
    ∧ ((cfg0.win 2).index t 0 = 0 ∧ (cfg0.win 2).index t 1 = 0)
    ∧ ((cfg0.win 3).index t 0 = 0 ∧ (cfg0.win 3).index t 1 = 0)
    ∧ ((cfg0.win 4).index t 0 = 0 ∧ (cfg0.win 4).index t 1 = 0)
    ∧ ((cfg0.win 5).index t 0 = 0 ∧ (cfg0.win 5).index t 1 = 0)
    ∧ ((cfg0.win 9).index t 0 = 0 ∧ (cfg0.win 9).index t 1 = 0)
    ∧ ((cfg0.win 10).index t 0 = 0 ∧ (cfg0.win 10).index t 1 = 0)
    ∧ ((cfg0.win 11).index t 0 = 0 ∧ (cfg0.win 11).index t 1 = 0 ∧ (cfg0.win 11).index t 2 = 0)
    ∧ ((cfg0.win 12).index t 0 = 0 ∧ (cfg0.win 12).index t 1 = 0)
    ∧ ((cfg0.win 13).index t 0 = 0 ∧ (cfg0.win 13).index t 1 = 0)
    ∧ ((cfg0.win 14).index t 0 = 0 ∧ (cfg0.win 14).index t 1 = 0) := by
  decide +kernel

/-- The block each result's window flushes at a grid point. -/
theorem idx_out : ∀ t : Fin cfg0.N,
    ((cfg0.win 15).index t 0 = t.val / 16 ∧ (cfg0.win 15).index t 1 = 0 ∧ (cfg0.win 15).index t 2 = t.val % 16)
    ∧ ((cfg0.win 16).index t 0 = t.val / 16 ∧ (cfg0.win 16).index t 1 = t.val % 16 ∧ (cfg0.win 16).index t 2 = 0)
    ∧ ((cfg0.win 17).index t 0 = t.val / 16 ∧ (cfg0.win 17).index t 1 = 0 ∧ (cfg0.win 17).index t 2 = t.val % 16)
    ∧ ((cfg0.win 19).index t 0 = t.val / 16 ∧ (cfg0.win 19).index t 1 = t.val % 16 ∧ (cfg0.win 19).index t 2 = 0) := by
  decide +kernel

theorem lt32 (t : Fin cfg0.N) : t.val < 32 := Nat.lt_of_lt_of_eq t.isLt N_0

/-- The sequence and the tile of a point. -/
def seq (t : Fin cfg0.N) : Fin 2 := ⟨t.val / 16, by have := lt32 t; omega⟩
def pos (t : Fin cfg0.N) : Fin 16 := ⟨t.val % 16, by omega⟩

variable (c : Dev nD) (t : Fin cfg0.N)

theorem read0 (r : Fin 512) (k : Fin 2048) : (iblk m c 0 t (ix3 0 r k) : Elt Ideal .f32) = (args m c).x (ix3 (seq t) (tok (pos t) r) k) := by
  blk_ext! [iblk, V, args, seq, pos, tok, idx t]

theorem read1 (k : Fin 2048) : (iblk m c 1 t (ix2 0 k) : Elt Ideal .f32) = (args m c).gain (ix1 k) := by
  blk_ext! [iblk, V, args, idx t]

set_option maxHeartbeats 2000000 in
theorem read2 (d : Fin 1024) (k : Fin 2048) : (iblk m c 2 t (ix2 d k) : Elt Ideal .bf16) = (args m c).w (ix2 k ⟨d.val, by omega⟩) := by
  blk_ext! [iblk, V, args, idx t]

set_option maxHeartbeats 2000000 in
theorem read3 (d : Fin 1024) (k : Fin 2048) : (iblk m c 3 t (ix2 d k) : Elt Ideal .bf16) = (args m c).w (ix2 k ⟨2048 + d.val, by omega⟩) := by
  blk_ext! [iblk, V, args, idx t]

theorem read4 (k : Fin 2048) (d : Fin 1024) : (iblk m c 4 t (ix2 k d) : Elt Ideal .bf16) = (args m c).w (ix2 k ⟨1024 + d.val, by omega⟩) := by
  blk_ext! [iblk, V, args, idx t]

theorem read5 (k d : Fin 2048) : (iblk m c 5 t (ix2 k d) : Elt Ideal .bf16) = (args m c).w (ix2 k ⟨3088 + d.val, by omega⟩) := by
  blk_ext! [iblk, V, args, idx t]

theorem read9 (k : Fin 4) (d : Fin 1024) : (iblk m c 9 t (ix2 k d) : Elt Ideal .f32) = (args m c).cw (ix2 k d) := by
  blk_ext! [iblk, V, args, idx t]

theorem read10 (d : Fin 1024) : (iblk m c 10 t (ix2 0 d) : Elt Ideal .f32) = (args m c).cb (ix1 d) := by
  blk_ext! [iblk, V, args, idx t]

theorem read12 (d : Fin 1024) : (iblk m c 12 t (ix2 0 d) : Elt Ideal .f32) = (args m c).ba (ix1 d) := by
  blk_ext! [iblk, V, args, idx t]

theorem read13 (d : Fin 1024) : (iblk m c 13 t (ix2 0 d) : Elt Ideal .f32) = (args m c).bx (ix1 d) := by
  blk_ext! [iblk, V, args, idx t]

theorem read14 (d : Fin 1024) : (iblk m c 14 t (ix2 0 d) : Elt Ideal .f32) = (args m c).lam (ix1 d) := by
  blk_ext! [iblk, V, args, idx t]

theorem read11 (g : Fin 4) (k : Fin 256) (j : Fin 512) : (iblk m c 11 t (ix3 g k j) : Elt Ideal .bf16) = paired (args m c).wa (args m c).wx g k j := by
  refine Eq.trans ?_ (pairedHost_apply (args m c).wa (args m c).wx g k j)
  refine Eq.trans ?_ (congrFun (host_paired m c) (ix3 g k j))
  blk_ext! [iblk, idx t]

set_option maxHeartbeats 4000000 in
theorem fits : Fits (args m c) (seq t) (pos t)
    ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t⟩ :=
  ⟨read0 m c t, read1 m c t, read2 m c t, read3 m c t, read4 m c t, read5 m c t, read9 m c t, read10 m c t, read11 m c t, read12 m c t, read13 m c t, read14 m c t⟩

end Cert.Kernel2Ideal.Mix
end
-- ==== Proof.Kernel2Ideal.Value.lean ====
/- The results the launch leaves are the model's. -/
module

public import proofs.«01_k».proof.Proof.Kernel2Ideal.Frame
public import proofs.«01_k».proof.Proof.Kernel2Ideal.Reads

@[expose] public section

set_option maxRecDepth 16384

noncomputable section

namespace Cert.Kernel2Ideal.Mix

open Cert.Kernel2Ideal Cert.Kernel2Ideal.Gen
open Idealize.ShloMosaic Idealize.ShloMosaic.TcCoe Cert.Mix
open Cert.Mlp (Mat Lst gelu)

variable (m : (ℓ : Loc nD τ sig) → Buf (Elt Ideal) ℓ) (c : Dev nD)

theorem start_iff : ∀ t : Fin cfg0.N, start (grid0.coords t) = 1#1 ↔ (pos t).val = 0 := by
  show ∀ t : Fin cfg0.N, start (grid0.coords t) = 1#1 ↔ t.val % 16 = 0
  decide +kernel

theorem fitsAt (t : Fin cfg0.N) : Fits (args m c) (seq t) (pos t) (blocksAt m c t) := fits m c t

/-- Every point starts from the rows before its tile and from the recurrence's state there. -/
def EntryOk (t : Fin cfg0.N) : Prop :=
  Tail (args m c) (seq t) (pos t) (entryAt m c t).s1 ∧ ∀ l : Fin 1024, (entryAt m c t).s2 (ix2 0 l) = state (args m c) (seq t) l ((pos t).val * 512)

theorem entry_first (t : Fin cfg0.N) (h : t.val % 16 = 0) : EntryOk m c t := by
  have hp : (pos t).val = 0 := h
  unfold EntryOk
  rw [entryAt_first m c t h]
  constructor
  · intro q l
    rw [dif_neg (by omega)]
    exact pay4_apply q l
  · intro l
    rw [hp]
    exact pay5_apply l

theorem entry_next (t p : Fin cfg0.N) (h : ¬ t.val % 16 = 0) (e : p.val + 1 = t.val) (H : EntryOk m c p) : EntryOk m c t := by
  have hs : seq p = seq t := Fin.ext (by show p.val / 16 = t.val / 16; omega)
  have hp : (pos p).val + 1 = (pos t).val := by show p.val % 16 + 1 = t.val % 16; omega
  have he : entryAt m c t = nextAt m c p (entryAt m c p) := by
    rw [entryAt_next m c t h (Nat.lt_of_le_of_lt (Nat.sub_le _ _) t.isLt), ← carryAt_eq]
    congr 1
    omega
  obtain ⟨h1, h2⟩ := H
  unfold EntryOk
  rw [he]
  constructor
  · intro q l
    rw [dif_pos (by omega), ← hs]
    refine (next1_apply (fitsAt m c p) q l).trans ?_
    congr 1
    exact Fin.ext (by show (pos p).val * 512 + (504 + q.val) = (pos t).val * 512 - 8 + q.val; omega)
  · intro l
    rw [← hs, ← hp]
    exact next2_apply (fitsAt m c p) h1 (start_iff p) h2 l

theorem entry_ok : ∀ (n : ℕ) (h : n < cfg0.N), EntryOk m c ⟨n, h⟩
  | 0, h => entry_first m c ⟨0, h⟩ rfl
  | n + 1, h => by
    by_cases h0 : (n + 1) % 16 = 0
    · exact entry_first m c ⟨n + 1, h⟩ h0
    · exact entry_next m c ⟨n + 1, h⟩ ⟨n, Nat.lt_of_succ_lt h⟩ h0 rfl (entry_ok n (Nat.lt_of_succ_lt h))

theorem mixed_at (t : Fin cfg0.N) (r : Fin 512) (l : Fin 1024) :
    tile4 m c t (ix3 0 r l) = mixed (args m c) (ix3 (seq t) (tok (pos t) r) l) := by
  obtain ⟨h1, h2⟩ := entry_ok m c t.val t.isLt
  exact out4_apply (fitsAt m c t) h1 (start_iff t) h2 r l

theorem queries_at (t : Fin cfg0.N) (d : Fin 1024) (r : Fin 512) : tile0 m c t (ix3 0 d r) = queries (args m c) (ix3 (seq t) d (tok (pos t) r)) :=
  out0_apply (fitsAt m c t) d r

theorem keys_at (t : Fin cfg0.N) (r : Fin 512) (l : Fin 1024) : tile1 m c t (ix3 0 r l) = keys (args m c) (ix3 (seq t) (tok (pos t) r) l) :=
  out1_apply (fitsAt m c t) r l

theorem values_at (t : Fin cfg0.N) (d : Fin 1024) (r : Fin 512) : tile2 m c t (ix3 0 d r) = values (args m c) (ix3 (seq t) d (tok (pos t) r)) :=
  out2_apply (fitsAt m c t) d r

theorem queries_value : (dats m 0 c).arrAt 15 cfg0.N = queries (args m c) := by
  refine (dats m 0 c).arrAt_eq_of_covers 15 _ (by decide +kernel) fun t hf y => ?_
  obtain ⟨z, d, r, rfl⟩ : ∃ (z : Fin 1) (d : Fin 1024) (r : Fin 512), y = ix3 z d r := ⟨y 0, y 1, y 2, eq_ix3 y⟩
  obtain rfl : z = 0 := Subsingleton.elim _ _
  blk_simp
  rw [after_15]
  refine (queries_at m c t d r).trans (congrArg _ ?_)
  blk_ext [seq, pos, tok, idx_out t]

theorem keys_value : (dats m 0 c).arrAt 16 cfg0.N = keys (args m c) := by
  refine (dats m 0 c).arrAt_eq_of_covers 16 _ (by decide +kernel) fun t hf y => ?_
  obtain ⟨z, r, l, rfl⟩ : ∃ (z : Fin 1) (r : Fin 512) (l : Fin 1024), y = ix3 z r l := ⟨y 0, y 1, y 2, eq_ix3 y⟩
  obtain rfl : z = 0 := Subsingleton.elim _ _
  blk_simp
  rw [after_16]
  refine (keys_at m c t r l).trans (congrArg _ ?_)
  blk_ext [seq, pos, tok, idx_out t]

theorem values_value : (dats m 0 c).arrAt 17 cfg0.N = values (args m c) := by
  refine (dats m 0 c).arrAt_eq_of_covers 17 _ (by decide +kernel) fun t hf y => ?_
  obtain ⟨z, d, r, rfl⟩ : ∃ (z : Fin 1) (d : Fin 1024) (r : Fin 512), y = ix3 z d r := ⟨y 0, y 1, y 2, eq_ix3 y⟩
  obtain rfl : z = 0 := Subsingleton.elim _ _
  blk_simp
  rw [after_17]
  refine (values_at m c t d r).trans (congrArg _ ?_)
  blk_ext [seq, pos, tok, idx_out t]

theorem mixed_value : (dats m 0 c).arrAt 19 cfg0.N = mixed (args m c) := by
  refine (dats m 0 c).arrAt_eq_of_covers 19 _ (by decide +kernel) fun t hf y => ?_
  obtain ⟨z, r, l, rfl⟩ : ∃ (z : Fin 1) (r : Fin 512) (l : Fin 1024), y = ix3 z r l := ⟨y 0, y 1, y 2, eq_ix3 y⟩
  obtain rfl : z = 0 := Subsingleton.elim _ _
  blk_simp
  rw [after_19]
  refine (mixed_at m c t r l).trans (congrArg _ ?_)
  blk_ext [seq, pos, tok, idx_out t]

end Cert.Kernel2Ideal.Mix
end
-- ==== Proof.Reference2Ideal.Stages.lean ====
/- What the reference computes before its recurrence, element by element. -/
module

public import proofs.«01_k».proof.Proof.Gen.Reference2Ideal.Step
public import proofs.«01_k».proof.Proof.Mix.Model

@[expose] public section

set_option maxRecDepth 16384

noncomputable section

namespace Cert.Reference2Ideal.Mix

open Cert.Reference2Ideal Cert.Reference2Ideal.Gen Cert.Reference2Ideal.Step Cert.Mix
open Cert.Mlp (Mat Lst gelu)
open Idealize.ShloMosaic

variable (A : Args) (b : Fin 2) (s : Fin 8192)

/-- A stage at the arguments. -/
abbrev at10 {β : Type} (f : Cube 2 8192 2048 → Lst 2048 → Mat 2048 5136 → Mat 4 1024 → Lst 1024 → Cube 16 64 64 → Lst 1024 → Cube 16 64 64 → Lst 1024 → Lst 1024 → β) : β :=
  f A.x A.gain A.w A.cw A.cb A.wa A.ba A.wx A.bx A.lam

abbrev projected : Cube 2 8192 5136 := at10 A (A_main_v13 (F := Ideal))
abbrev padded : Cube 2 8195 1024 := at10 A (A_main_v15 (F := Ideal))
abbrev convolved : Cube 2 8192 1024 := at10 A (A_main_v47 (F := Ideal))
abbrev gateA : Cube 2 8192 1024 := at10 A (A_main_v60 (F := Ideal))
abbrev gateX : Cube 2 8192 1024 := at10 A (A_main_v72 (F := Ideal))
abbrev soft : Lst 1024 := at10 A (A_main_v76 (F := Ideal))
abbrev logDecay : Cube 2 8192 1024 := at10 A (A_main_v79 (F := Ideal))
abbrev decays : Cube 8192 2 1024 := at10 A (A_main_v96 (F := Ideal))
abbrev drives : Cube 8192 2 1024 := at10 A (A_main_v97 (F := Ideal))

theorem projected_apply (j : Fin 5136) : projected A (ix3 b s j) = proj A b s j := by
  pointwise [projected, at10, A_main_v13, A_main_v12, A_main_v11, A_main_v10, A_main_v9, A_main_v8, A_main_v7, A_main_v6, A_main_v4, A_main_v2, A_main_v1, A_main_v0, K_main_v5, K_main_v3, K_main_cst, K_main_cst_0, K_main_cst_1, proj, scaled]

theorem zero_int : (FloatOps.sitofp (F := Ideal) .f32 0#32 : EReal) = 0 := by
  show (((0#32 : BitVec 32).toInt : ℝ) : EReal) = 0
  simp

theorem padded_apply (n : Fin 8195) (c : Fin 1024) :
    padded A (ix3 b n c) = if h : 3 ≤ n.val then proj A b ⟨n.val - 3, by omega⟩ ⟨3088 + c.val, by omega⟩ else 0 := by
  have hn := n.isLt
  by_cases h : 3 ≤ n.val
  · rw [dif_pos h, ← projected_apply]
    pointwise [padded, at10, A_main_v15, A_main_v14, K_main_call0_v0, K_main_c]
    rw [dif_pos (by omega)]
  · rw [dif_neg h]
    pointwise [padded, at10, A_main_v15, A_main_v14, K_main_call0_v0, K_main_c]
    rw [dif_neg (by omega), zero_int]

theorem tap (k : Nat) (hk : k ≤ 3) (c : Fin 1024) :
    padded A (ix3 b ⟨3 - k + s.val, by omega⟩ c) = Cert.Mix.back k (fun s => proj A b s ⟨3088 + c.val, by omega⟩) s := by
  have hs := s.isLt
  rw [padded_apply]
  unfold Cert.Mix.back
  by_cases h : k ≤ s.val
  · rw [dif_pos (by show 3 ≤ 3 - k + s.val; omega), if_pos h]
    congr 1
    exact Fin.ext (by show 3 - k + s.val - 3 = s.val - k; omega)
  · rw [dif_neg (by show ¬ 3 ≤ 3 - k + s.val; omega), if_neg h]

theorem taps_comm (a0 a1 a2 a3 w0 w1 w2 w3 b : EReal) :
    a0 * w0 + a1 * w1 + a2 * w2 + a3 * w3 + b = b + w3 * a3 + w2 * a2 + w1 * a1 + w0 * a0 := by
  rw [mul_comm a0, mul_comm a1, mul_comm a2, mul_comm a3]
  rw [add_comm (_ + _ + _ + _) b, add_comm (w0 * a0), add_comm (_ + _) (w2 * a2), add_comm (_ + _) (w3 * a3)]
  simp only [← add_assoc]

theorem convolved_apply (c : Fin 1024) : convolved A (ix3 b s c) = fed A b s c := by
  have hs := s.isLt
  have e0 := tap A b s 3 (by decide) c
  have e1 := tap A b s 2 (by decide) c
  have e2 := tap A b s 1 (by decide) c
  have e3 : padded A (ix3 b ⟨3 + s.val, by omega⟩ c) = proj A b s ⟨3088 + c.val, by omega⟩ := by
    rw [padded_apply, dif_pos (by show 3 ≤ 3 + s.val; omega)]
    congr 1
    exact Fin.ext (by show 3 + s.val - 3 = s.val; omega)
  unfold fed conv
  rw [← e0, ← e1, ← e2]
  beta_reduce
  rw [← e3]
  refine Eq.trans ?_ (taps_comm _ _ _ _ _ _ _ _ _)
  unfold padded convolved at10
  generalize hp : A_main_v15 (F := Ideal) A.x A.gain A.w A.cw A.cb A.wa A.ba A.wx A.bx A.lam = p
  pointwise [A_main_v47, A_main_v46, A_main_v45, A_main_v44, A_main_v43, A_main_v42, A_main_v41, A_main_v40, A_main_v39, A_main_v38, A_main_v37, A_main_v36, A_main_v35, A_main_v34, A_main_v33, A_main_v32, A_main_v31, A_main_v30, A_main_v29, A_main_v28, A_main_v27, A_main_v26, A_main_v25, A_main_v24, A_main_v23, A_main_v21, A_main_v20, A_main_v19, A_main_v18, A_main_v17, A_main_v16, K_main_v22, K_main_cst_2, hp]

theorem one_word : Ideal.ofBits .f32 0x3F800000#32 = 1 := by
  simp [Ideal.ofBits, Ideal.ieee]
  rw [← EReal.coe_mul]; norm_num

theorem two_word : Ideal.ofBits .f32 0x40000000#32 = ((2 : ℝ) : EReal) := by
  simp [Ideal.ofBits, Ideal.ieee]
  rw [← EReal.coe_mul]; norm_num

theorem gateA_apply (c : Fin 1024) : gateA A (ix3 b s c) = gate (fed A b s) A.wa (A.ba (ix1 c)) c := by
  have hf : (fed A b s) = fun c => convolved A (ix3 b s c) := funext fun c => (convolved_apply A b s c).symm
  rw [hf]
  unfold gate gateA convolved at10
  generalize hp : A_main_v47 (F := Ideal) A.x A.gain A.w A.cw A.cb A.wa A.ba A.wx A.bx A.lam = p
  pointwise [A_main_v60, A_main_v58, A_main_v56, A_main_v55, A_main_v54, A_main_v53, A_main_v52, A_main_v51, A_main_v50, A_main_v49, A_main_v48, K_main_v57, K_main_v59, K_main_cst_3, K_main_cst_4, hp]
  simp only [mul_comm (A.wa _)]
  rfl

theorem gateX_apply (c : Fin 1024) : gateX A (ix3 b s c) = gate (fed A b s) A.wx (A.bx (ix1 c)) c := by
  have hf : (fed A b s) = fun c => convolved A (ix3 b s c) := funext fun c => (convolved_apply A b s c).symm
  rw [hf]
  unfold gate gateX convolved at10
  generalize hp : A_main_v47 (F := Ideal) A.x A.gain A.w A.cw A.cb A.wa A.ba A.wx A.bx A.lam = p
  pointwise [A_main_v72, A_main_v70, A_main_v68, A_main_v67, A_main_v66, A_main_v65, A_main_v64, A_main_v63, A_main_v62, A_main_v61, A_main_v48, K_main_v69, K_main_v71, K_main_cst_5, K_main_cst_6, hp]
  simp only [mul_comm (A.wx _)]
  rfl

theorem soft_apply (c : Fin 1024) : soft A (ix1 c) = softplus (-A.lam (ix1 c)) := by
  unfold softplus
  pointwise [soft, at10, A_main_v76, A_main_call1_v11, A_main_call1_v10, A_main_call1_v9, A_main_call1_v8, A_main_call1_v7, A_main_call1_v6, A_main_call1_v4, A_main_call1_v3, A_main_call1_v1, A_main_v75, K_main_call1_v0, K_main_call1_v2, K_main_call1_v5, K_main_call1_cst]
  rw [if_neg (not_not.mpr rfl)]
  rfl

theorem logDecay_apply (c : Fin 1024) : logDecay A (ix3 b s c) = rate A b s c := by
  unfold rate
  rw [← gateA_apply, ← soft_apply]
  unfold gateA soft logDecay at10
  generalize hp : A_main_v60 (F := Ideal) A.x A.gain A.w A.cw A.cb A.wa A.ba A.wx A.bx A.lam = p
  generalize hq : A_main_v76 (F := Ideal) A.x A.gain A.w A.cw A.cb A.wa A.ba A.wx A.bx A.lam = q
  pointwise [A_main_v79, A_main_v78, A_main_v77, A_main_v74, K_main_v73, K_main_cst_7, hp, hq]

theorem decays_apply (c : Fin 1024) : decays A (ix3 s b c) = decay A b s c := by
  unfold decay
  rw [← logDecay_apply]
  unfold decays logDecay at10
  generalize hp : A_main_v79 (F := Ideal) A.x A.gain A.w A.cw A.cb A.wa A.ba A.wx A.bx A.lam = p
  pointwise [A_main_v96, A_main_v80, hp]

theorem first_token : Scalar.select (IntOp.cmpi CmpIPredicate.eq (BitVec.ofNat 32 s.val) 0#32) (1 : EReal) = fun y => if s.val = 0 then 1 else y := by
  funext y
  by_cases h : s.val = 0
  · rw [h]; simp [Scalar.select, IntOp.cmpi]
  · have hb : BitVec.ofNat 32 s.val ≠ 0#32 := fun e => h (by have := congrArg BitVec.toNat e; simp at this; omega)
    have hb' : (BitVec.ofNat 32 s.val == 0#32) = false := by simpa using hb
    simp [Scalar.select, IntOp.cmpi, h, hb']

theorem drives_apply (c : Fin 1024) : drives A (ix3 s b c) = drive A b s c := by
  unfold drive amount
  rw [← logDecay_apply, ← convolved_apply, ← gateX_apply]
  unfold drives logDecay convolved gateX at10
  generalize hp : A_main_v79 (F := Ideal) A.x A.gain A.w A.cw A.cb A.wa A.ba A.wx A.bx A.lam = p
  generalize hq : A_main_v47 (F := Ideal) A.x A.gain A.w A.cw A.cb A.wa A.ba A.wx A.bx A.lam = q
  generalize hr : A_main_v72 (F := Ideal) A.x A.gain A.w A.cw A.cb A.wa A.ba A.wx A.bx A.lam = r
  pointwise [A_main_v97, A_main_v92, A_main_v91, A_main_v90, A_main_v85, A_main_v84, A_main_v83, A_main_v82, K_main_v81, K_main_cst_8, K_main_call2_v1, K_main_call2_v2, K_main_v89, K_main_v88, K_main_c_9, K_main_v87, K_main_v86, K_main_call2_v0, K_main_cst_10, hp, hq, hr]
  rw [show (id (constant (F := Ideal) S_ FTy.f32 1065353216#32) ix0 : EReal) = 1 from one_word, congrFun (first_token s) _, two_word]

end Cert.Reference2Ideal.Mix
end
-- ==== Proof.Reference2Ideal.Entry.lean ====
/- What the reference's loop starts from. -/
module

public import proofs.«01_k».proof.Proof.Gen.Reference2Ideal.Run
public import proofs.«01_k».proof.Proof.Gen.Reference2Ideal.Step

@[expose] public section

set_option maxRecDepth 100000

noncomputable section

namespace Cert.Reference2Ideal.Mix

open Cert.Reference2Ideal Cert.Reference2Ideal.Gen Cert.Reference2Ideal.Value Cert.Reference2Ideal.Step
open Idealize.ShloMosaic Idealize.ShloMosaic.StableHlo

variable {F : FTy → Type} [FloatOps F] (m : (ℓ : Loc nD τ sig) → Buf (Elt F) ℓ) (c : Dev nD)

theorem entry_state : entryContents preI m c (Proc.devRef .tc main_v99_3) = K_main_v95 (F := F) := by
  simp only [entryContents, afterL_cons, afterL_nil]
  after_reads_simp
  rfl

theorem entry_out : entryContents preI m c (Proc.devRef .tc main_v99_4) = K_main_v98 (F := F) := by
  simp only [entryContents, afterL_cons, afterL_nil]
  after_reads_simp
  rfl

set_option maxHeartbeats 4000000 in
theorem entry_decays : entryContents preI m c (Proc.devRef .tc main_v99_0) = A_main_v96 (F := F) (m ((c.tc : Thread nD τ).loc main_arg0)) (m ((c.tc : Thread nD τ).loc main_arg1)) (m ((c.tc : Thread nD τ).loc main_arg2))
    (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  simp only [entryContents, afterL_cons, afterL_nil]
  after_reads_simp
  rfl

set_option maxHeartbeats 4000000 in
theorem entry_drives : entryContents preI m c (Proc.devRef .tc main_v99_1) = A_main_v97 (F := F) (m ((c.tc : Thread nD τ).loc main_arg0)) (m ((c.tc : Thread nD τ).loc main_arg1)) (m ((c.tc : Thread nD τ).loc main_arg2))
    (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  simp only [entryContents, afterL_cons, afterL_nil]
  after_reads_simp
  rfl

end Cert.Reference2Ideal.Mix
end
-- ==== Proof.Reference2Ideal.Loop.lean ====
/- The reference's loop carries the recurrence's state, and its results are the model's. -/
module

public import proofs.«01_k».proof.Proof.Reference2Ideal.Stages
public import proofs.«01_k».proof.Proof.Reference2Ideal.Entry
public import Idealize.ShloMosaic.Lib.WordCmp

@[expose] public section

set_option maxRecDepth 16384

noncomputable section

namespace Cert.Reference2Ideal.Mix

open Cert.Reference2Ideal Cert.Reference2Ideal.Gen Cert.Reference2Ideal.Value Cert.Reference2Ideal.Step Cert.Mix
open Cert.Mlp (Mat Lst gelu)
open Idealize.ShloMosaic Idealize.ShloMosaic.StableHlo

theorem offsets (n : Nat) (hn : n < 8192) : S8192x2x1024.Slices ![n, 0, 0] S1x2x1024 :=
  ⟨rfl, fun a => by fin_cases a <;> simp <;> omega⟩

/-- The words of a start index are its numbers. -/
theorem start_eq (n : Nat) (hn : n < 8192) (a : Fin 3) :
    (((![fun _ => BitVec.ofNat 32 n, constantI S_ 32 0#32, constantI S_ 32 0#32] : Fin 3 → (⟨S_, .i32⟩ : BufTy).Contents (Elt Ideal)) a (Shape.Idx.first h_S_)) : BitVec 32).toInt = ((![n, 0, 0] : Fin 3 → Nat) a : Int) := by
  have e : (BitVec.ofNat 32 n).toInt = n := by
    rw [BitVec.toInt_eq_toNat_of_lt (by simp; omega)]
    simp; omega
  fin_cases a
  · exact e
  · rfl
  · rfl

/-- One token's row of a stacked array. -/
theorem row_apply (x : FVec Ideal S8192x2x1024 .f32) (n : Nat) (hn : n < 8192) (b : Fin 2) (c : Fin 1024) :
    shapeCast S2x1024 (Host.dynamicSlice S1x2x1024 x (fun k => (((![fun _ => BitVec.ofNat 32 n, constantI S_ 32 0#32, constantI S_ 32 0#32] : Fin 3 → (⟨S_, .i32⟩ : BufTy).Contents (Elt Ideal)) k (Shape.Idx.first h_S_)) : BitVec 32).toInt)
      sliceFits_S8192x2x1024_S1x2x1024) shapeCasts_S1x2x1024_S2x1024 (ix2 b c) = x (ix3 ⟨n, hn⟩ b c) := by
  rw [WordCmp.dynamicSlice_eq_extract _ x _ _ ![n, 0, 0] (offsets n hn) (start_eq n hn)]
  pointwise []

/-- A stacked array with one token's row replaced. -/
theorem stack_apply (x : FVec Ideal S8192x2x1024 .f32) (h : FVec Ideal S2x1024 .f32) (n : Nat) (hn : n < 8192) (s : Fin 8192) (b : Fin 2) (c : Fin 1024) :
    Host.dynamicUpdateSlice x (broadcastInDim S1x2x1024 ![1, 2] bcast_S2x1024_S1x2x1024_1_2 h) (fun k => (((![fun _ => BitVec.ofNat 32 n, constantI S_ 32 0#32, constantI S_ 32 0#32] : Fin 3 → (⟨S_, .i32⟩ : BufTy).Contents (Elt Ideal)) k (Shape.Idx.first h_S_)) : BitVec 32).toInt)
      updateFits_S8192x2x1024_S1x2x1024 (ix3 s b c) = if s.val = n then h (ix2 b c) else x (ix3 s b c) := by
  rw [WordCmp.dynamicUpdateSlice_eq_update x _ _ _ ![n, 0, 0] (offsets n hn) (start_eq n hn)]
  have hs := s.isLt
  by_cases e : s.val = n
  · rw [if_pos e]
    pointwise []
    rw [dif_pos (by omega)]
  · rw [if_neg e]
    pointwise []
    rw [dif_neg (by omega)]

variable (A : Args)

/-- What the loop carries after `n` tokens. -/
structure Carried (n : Nat) (V : Valuation τ sig (Elt Ideal)) : Prop where
  a : V (Proc.devRef .tc main_v99_0) = decays A
  b : V (Proc.devRef .tc main_v99_1) = drives A
  j : V (Proc.devRef .tc main_v99_2) = fun _ => BitVec.ofNat 32 n
  h : ∀ (b : Fin 2) (c : Fin 1024), (V (Proc.devRef .tc main_v99_3) : FVec Ideal S2x1024 .f32) (ix2 b c) = state A b c n
  y : ∀ (s : Fin 8192) (b : Fin 2) (c : Fin 1024), s.val < n → (V (Proc.devRef .tc main_v99_4) : FVec Ideal S8192x2x1024 .f32) (ix3 s b c) = state A b c (s.val + 1)

theorem state_succ (b : Fin 2) (c : Fin 1024) (n : Nat) (hn : n < 8192) :
    state A b c (n + 1) = decay A b ⟨n, hn⟩ c * state A b c n + drive A b ⟨n, hn⟩ c := by
  unfold state
  show ext _ n * _ + ext _ n = _
  unfold ext
  rw [dif_pos hn, dif_pos hn]

theorem trip_state {n : Nat} {V : Valuation τ sig (Elt Ideal)} (hn : n < 8192) (H : Carried A n V) (b : Fin 2) (c : Fin 1024) :
    (res_main_while0b_v144 V : FVec Ideal S2x1024 .f32) (ix2 b c) = state A b c (n + 1) := by
  unfold res_main_while0b_v144
  rw [H.a, H.b, H.j, state_succ A b c n hn]
  refine congrArg₂ (· + ·) (congrArg₂ (· * ·) ?_ (H.h b c)) ?_
  · exact (row_apply _ n hn b c).trans (decays_apply A b ⟨n, hn⟩ c)
  · exact (row_apply _ n hn b c).trans (drives_apply A b ⟨n, hn⟩ c)

theorem trip {n : Nat} {V : Valuation τ sig (Elt Ideal)} (hn : n < 8192) (H : Carried A n V) : Carried A (n + 1) (STEP V) where
  a := (STEP_main_v99_0 V).trans H.a
  b := (STEP_main_v99_1 V).trans H.b
  j := by
    rw [STEP_main_v99_2]
    unfold step_main_v99_2
    rw [H.j]
    funext i
    show BitVec.ofNat 32 n + 1#32 = BitVec.ofNat 32 (n + 1)
    rw [← BitVec.ofNat_add]
  h b c := by
    rw [STEP_main_v99_3]
    exact trip_state A hn H b c
  y s b c hs := by
    rw [STEP_main_v99_4]
    unfold Value.step_main_v99_4
    rw [H.j]
    refine (stack_apply _ _ n hn s b c).trans ?_
    by_cases e : s.val = n
    · rw [if_pos e, e]
      exact trip_state A hn H b c
    · rw [if_neg e]
      exact H.y s b c (by omega)

variable (m : (ℓ : Loc nD τ sig) → Buf (Elt Ideal) ℓ) (d : Dev nD)

/-- The arguments' contents. -/
def args : Args where
  x := m ((d.tc : Thread nD τ).loc main_arg0)
  gain := m ((d.tc : Thread nD τ).loc main_arg1)
  w := m ((d.tc : Thread nD τ).loc main_arg2)
  cw := m ((d.tc : Thread nD τ).loc main_arg4)
  cb := m ((d.tc : Thread nD τ).loc main_arg5)
  wa := m ((d.tc : Thread nD τ).loc main_arg6)
  ba := m ((d.tc : Thread nD τ).loc main_arg7)
  wx := m ((d.tc : Thread nD τ).loc main_arg8)
  bx := m ((d.tc : Thread nD τ).loc main_arg9)
  lam := m ((d.tc : Thread nD τ).loc main_arg10)

theorem carried_entry : Carried (args m d) 0 (entryContents preI m d) where
  a := entry_decays m d
  b := entry_drives m d
  j := ctr_entry m d
  h b c := by
    rw [entry_state]
    show Ideal.ofBits .f32 0x00000000#32 = lin _ _ 0 0
    simp [Ideal.ofBits, Ideal.ieee, lin]
  y s b c hs := absurd hs (Nat.not_lt_zero _)

theorem carried : ∀ n ≤ 8192, Carried (args m d) n (STEP^[n] (entryContents preI m d))
  | 0, _ => carried_entry m d
  | n + 1, hn => by
    rw [Function.iterate_succ_apply']
    exact trip (args m d) (by omega) (carried n (by omega))

/-! ## The results -/

theorem args_read {n : Nat} : (STEP^[n] (entryContents preI m d)) (Proc.devRef .tc main_arg0) = (args m d).x
    ∧ (STEP^[n] (entryContents preI m d)) (Proc.devRef .tc main_arg1) = (args m d).gain
    ∧ (STEP^[n] (entryContents preI m d)) (Proc.devRef .tc main_arg2) = (args m d).w :=
  ⟨iter_main_arg0 m d n, iter_main_arg1 m d n, iter_main_arg2 m d n⟩

theorem queries_value : out_main_v136 (STEP^[8192] (entryContents preI m d)) = queries (args m d) := by
  unfold out_main_v136
  rw [(args_read m d).1, (args_read m d).2.1, (args_read m d).2.2]
  funext i
  obtain ⟨b, j, s, rfl⟩ : ∃ (b : Fin 2) (j : Fin 1024) (s : Fin 8192), i = ix3 b j s := ⟨i 0, i 1, i 2, eq_ix3 i⟩
  show _ = proj (args m d) b s ⟨j.val, _⟩ * _
  generalize args m d = A
  pointwise [proj, scaled]

theorem keys_value : out_main_v137 (STEP^[8192] (entryContents preI m d)) = keys (args m d) := by
  unfold out_main_v137
  rw [(args_read m d).1, (args_read m d).2.1, (args_read m d).2.2]
  funext i
  obtain ⟨b, s, j, rfl⟩ : ∃ (b : Fin 2) (s : Fin 8192) (j : Fin 1024), i = ix3 b s j := ⟨i 0, i 1, i 2, eq_ix3 i⟩
  show _ = proj (args m d) b s ⟨1024 + j.val, _⟩
  generalize args m d = A
  pointwise [proj, scaled]

theorem values_value : out_main_v139 (STEP^[8192] (entryContents preI m d)) = values (args m d) := by
  unfold out_main_v139
  rw [(args_read m d).1, (args_read m d).2.1, (args_read m d).2.2]
  funext i
  obtain ⟨b, j, s, rfl⟩ : ∃ (b : Fin 2) (j : Fin 1024) (s : Fin 8192), i = ix3 b j s := ⟨i 0, i 1, i 2, eq_ix3 i⟩
  show _ = proj (args m d) b s ⟨2048 + j.val, _⟩
  generalize args m d = A
  pointwise [proj, scaled]

theorem mixed_value : out_main_v140 (STEP^[8192] (entryContents preI m d)) = mixed (args m d) := by
  have hy := (carried m d 8192 le_rfl).y
  unfold out_main_v140
  rw [(args_read m d).1, (args_read m d).2.1, (args_read m d).2.2]
  funext i
  obtain ⟨b, s, c, rfl⟩ : ∃ (b : Fin 2) (s : Fin 8192) (c : Fin 1024), i = ix3 b s c := ⟨i 0, i 1, i 2, eq_ix3 i⟩
  show _ = state (args m d) b c (s.val + 1) * gelu (proj (args m d) b s ⟨4112 + c.val, _⟩)
  rw [← hy s b c s.isLt]
  generalize (STEP^[8192] (entryContents preI m d)) (Proc.devRef .tc main_v99_4) = y
  generalize args m d = A
  pointwise [proj, scaled, gelu]

end Cert.Reference2Ideal.Mix
end
-- ==== Proof.lean ====
/- The claims of the certificate, from the programs' frames and values. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame.Runs
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame.Runs
public import proofs.«01_k».proof.Proof.Gen.Reference2Ideal
public import proofs.«01_k».proof.Proof.Gen.Reference2Ideal.Run
public import proofs.«01_k».proof.Proof.Gen.Reference2Ideal.Step
public import proofs.«01_k».proof.Proof.Kernel.Frame
public import proofs.«01_k».proof.Proof.KernelIdeal.Value
public import proofs.«01_k».proof.Proof.ReferenceIdeal.Value
public import proofs.«01_k».proof.Proof.Kernel2.Frame
public import proofs.«01_k».proof.Proof.Kernel2Ideal.Value
public import proofs.«01_k».proof.Proof.Reference2Ideal.Loop
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's frame: its run, on a signature without semaphores. -/
theorem reference_frame : Cert.quiescent_ReferenceIdeal := fun m g _ =>
  (θ_run Cert.ReferenceIdeal.defs _ _).mono (fun r h => ⟨fun c => (h c).2, sem_eq_zero_of_no_sems rfl r.2⟩) (Cert.ReferenceIdeal.Value.run m g)

/-- The reference's result from memories that agree on the arguments. -/
theorem reference_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = Cert.KernelIdeal.Ffn.Ah m c)
    (h1 : m' ((c.tc : Thread Cert.ReferenceIdeal.nD Cert.ReferenceIdeal.τ).loc Cert.ReferenceIdeal.main_arg1) = Cert.KernelIdeal.Ffn.Ax m c)
    (h2 : m' ((c.tc : Thread Cert.ReferenceIdeal.nD Cert.ReferenceIdeal.τ).loc Cert.ReferenceIdeal.main_arg2) = Cert.KernelIdeal.Ffn.Ag m c)
    (h3 : m' ((c.tc : Thread Cert.ReferenceIdeal.nD Cert.ReferenceIdeal.τ).loc Cert.ReferenceIdeal.main_arg3) = Cert.KernelIdeal.Ffn.Au m c)
    (h4 : m' ((c.tc : Thread Cert.ReferenceIdeal.nD Cert.ReferenceIdeal.τ).loc Cert.ReferenceIdeal.main_arg4) = Cert.KernelIdeal.Ffn.Aw m c)
    (h5 : m' ((c.tc : Thread Cert.ReferenceIdeal.nD Cert.ReferenceIdeal.τ).loc Cert.ReferenceIdeal.main_arg5) = Cert.KernelIdeal.Ffn.Ab m c)
    (h6 : m' ((c.tc : Thread Cert.ReferenceIdeal.nD Cert.ReferenceIdeal.τ).loc Cert.ReferenceIdeal.main_arg6) = Cert.KernelIdeal.Ffn.Ad m c)
    (h7 : m' ((c.tc : Thread Cert.ReferenceIdeal.nD Cert.ReferenceIdeal.τ).loc Cert.ReferenceIdeal.main_arg7) = Cert.KernelIdeal.Ffn.Ar m c) :
    Cert.ReferenceIdeal.Value.res_main_v60 m' c
      = Cert.Mlp.result (Cert.KernelIdeal.Ffn.Ah m c) (Cert.KernelIdeal.Ffn.Ax m c) (Cert.KernelIdeal.Ffn.Ag m c) (Cert.KernelIdeal.Ffn.Au m c)
          (Cert.KernelIdeal.Ffn.Aw m c) (Cert.KernelIdeal.Ffn.Ab m c) (Cert.KernelIdeal.Ffn.Ad m c) (Cert.KernelIdeal.Ffn.Ar m c) := by
  rw [Cert.ReferenceIdeal.Read.val_main_v60_eq, Cert.ReferenceIdeal.Ffn.result_apply, ← h0, ← h1, ← h2, ← h3, ← h4, ← h5, ← h6, ← h7]

/-- The gated MLP's program leaves the reference's result, over the extended reals. -/
theorem mlp_algebraic : Cert.algebraic_KernelIdeal_ReferenceIdeal := fun m g m' g' _ ha =>
  ⟨fun c => Cert.Mlp.result (Cert.KernelIdeal.Ffn.Ah m c) (Cert.KernelIdeal.Ffn.Ax m c) (Cert.KernelIdeal.Ffn.Ag m c) (Cert.KernelIdeal.Ffn.Au m c)
      (Cert.KernelIdeal.Ffn.Aw m c) (Cert.KernelIdeal.Ffn.Ab m c) (Cert.KernelIdeal.Ffn.Ad m c) (Cert.KernelIdeal.Ffn.Ar m c),
    (θ_run Cert.KernelIdeal.defs _ _).mono (fun r h c => ⟨((h.1 c).1 8).trans (Cert.KernelIdeal.Ffn.value m c), h.2 c⟩)
      (θ_run_and (Cert.KernelIdeal.Ffn.run_main m g) (Cert.KernelIdeal.Ffn.unchanged m g)),
    (θ_run Cert.ReferenceIdeal.defs _ _).mono (fun r h c => ⟨(h c).1.trans (reference_value m m' c (ha c).1 (ha c).2.1 (ha c).2.2.1 (ha c).2.2.2.1
        (ha c).2.2.2.2.1 (ha c).2.2.2.2.2.1 (ha c).2.2.2.2.2.2.1 (ha c).2.2.2.2.2.2.2), (h c).2⟩) (Cert.ReferenceIdeal.Value.run m' g')⟩

/-! ## The input projections and the recurrence -/

theorem mix_reference_frame : Cert.quiescent_Reference2Ideal := fun m g _ =>
  (θ_run Cert.Reference2Ideal.defs _ _).mono (fun r h => ⟨fun c => (h c).2.2.2.2, sem_eq_zero_of_no_sems rfl r.2⟩) (Cert.Reference2Ideal.Value.run m g)

/-- Memories that agree on the arguments give the model the same arguments. -/
theorem mix_args (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = (Cert.Kernel2Ideal.Mix.args m c).x)
    (h1 : m' ((c.tc : Thread Cert.Reference2Ideal.nD Cert.Reference2Ideal.τ).loc Cert.Reference2Ideal.main_arg1) = (Cert.Kernel2Ideal.Mix.args m c).gain)
    (h2 : m' ((c.tc : Thread Cert.Reference2Ideal.nD Cert.Reference2Ideal.τ).loc Cert.Reference2Ideal.main_arg2) = (Cert.Kernel2Ideal.Mix.args m c).w)
    (h4 : m' ((c.tc : Thread Cert.Reference2Ideal.nD Cert.Reference2Ideal.τ).loc Cert.Reference2Ideal.main_arg4) = (Cert.Kernel2Ideal.Mix.args m c).cw)
    (h5 : m' ((c.tc : Thread Cert.Reference2Ideal.nD Cert.Reference2Ideal.τ).loc Cert.Reference2Ideal.main_arg5) = (Cert.Kernel2Ideal.Mix.args m c).cb)
    (h6 : m' ((c.tc : Thread Cert.Reference2Ideal.nD Cert.Reference2Ideal.τ).loc Cert.Reference2Ideal.main_arg6) = (Cert.Kernel2Ideal.Mix.args m c).wa)
    (h7 : m' ((c.tc : Thread Cert.Reference2Ideal.nD Cert.Reference2Ideal.τ).loc Cert.Reference2Ideal.main_arg7) = (Cert.Kernel2Ideal.Mix.args m c).ba)
    (h8 : m' ((c.tc : Thread Cert.Reference2Ideal.nD Cert.Reference2Ideal.τ).loc Cert.Reference2Ideal.main_arg8) = (Cert.Kernel2Ideal.Mix.args m c).wx)
    (h9 : m' ((c.tc : Thread Cert.Reference2Ideal.nD Cert.Reference2Ideal.τ).loc Cert.Reference2Ideal.main_arg9) = (Cert.Kernel2Ideal.Mix.args m c).bx)
    (h10 : m' ((c.tc : Thread Cert.Reference2Ideal.nD Cert.Reference2Ideal.τ).loc Cert.Reference2Ideal.main_arg10) = (Cert.Kernel2Ideal.Mix.args m c).lam) :
    Cert.Reference2Ideal.Mix.args m' c = Cert.Kernel2Ideal.Mix.args m c := by
  unfold Cert.Reference2Ideal.Mix.args
  rw [h0, h1, h2, h4, h5, h6, h7, h8, h9, h10]

/-- The input projections' program leaves the reference's queries, keys, values and recurrence output, over the extended reals. -/
theorem mix_algebraic : Cert.algebraic_Kernel2Ideal_Reference2Ideal := fun m g m' g' _ ha =>
  have e : ∀ c, Cert.Reference2Ideal.Mix.args m' c = Cert.Kernel2Ideal.Mix.args m c := fun c => by
    obtain ⟨h0, h1, h2, _, h4, h5, h6, h7, h8, h9, h10⟩ := ha c
    exact mix_args m m' c h0 h1 h2 h4 h5 h6 h7 h8 h9 h10
  ⟨fun c => Cert.Mix.queries (Cert.Kernel2Ideal.Mix.args m c), fun c => Cert.Mix.keys (Cert.Kernel2Ideal.Mix.args m c),
    fun c => Cert.Mix.values (Cert.Kernel2Ideal.Mix.args m c), fun c => Cert.Mix.mixed (Cert.Kernel2Ideal.Mix.args m c),
    (θ_run Cert.Kernel2Ideal.defs _ _).mono (fun r h c => ⟨((h.1 c).1 15).trans (Cert.Kernel2Ideal.Mix.queries_value m c),
        ((h.1 c).1 16).trans (Cert.Kernel2Ideal.Mix.keys_value m c), ((h.1 c).1 17).trans (Cert.Kernel2Ideal.Mix.values_value m c),
        ((h.1 c).1 19).trans (Cert.Kernel2Ideal.Mix.mixed_value m c), h.2 c⟩)
      (θ_run_and (Cert.Kernel2Ideal.Mix.run_main m g) (Cert.Kernel2Ideal.Mix.unchanged m g)),
    (θ_run Cert.Reference2Ideal.defs _ _).mono (fun r h c =>
      ⟨(h c).1.trans ((Cert.Reference2Ideal.Mix.queries_value m' c).trans (congrArg Cert.Mix.queries (e c))),
        (h c).2.1.trans ((Cert.Reference2Ideal.Mix.keys_value m' c).trans (congrArg Cert.Mix.keys (e c))),
        (h c).2.2.1.trans ((Cert.Reference2Ideal.Mix.values_value m' c).trans (congrArg Cert.Mix.values (e c))),
        (h c).2.2.2.1.trans ((Cert.Reference2Ideal.Mix.mixed_value m' c).trans (congrArg Cert.Mix.mixed (e c))), (h c).2.2.2.2⟩) (Cert.Reference2Ideal.Value.run m' g')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  fun m g _ => Cert.Kernel.Ffn.frame m g, fun m g _ => Cert.KernelIdeal.Ffn.frame m g, reference_frame,
  fun m g _ => Cert.Kernel2.Mix.frame m g, fun m g _ => Cert.Kernel2Ideal.Mix.frame m g, mix_reference_frame,
  trivial, mlp_algebraic, trivial, mix_algebraic⟩

end Cert.Proof

end
